-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v153_0)) (v1 : (c : Dev Cert.KernelIdeal.nD) → Buf (Elt Ideal) ((c.tc : Thread Cert.KernelIdeal.nD Cert.KernelIdeal.τ).loc Cert.KernelIdeal.main_v153_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153_0) = v0 c
          ∧ r.2.mem ((c.tc : Thread Cert.KernelIdeal.nD Cert.KernelIdeal.τ).loc Cert.KernelIdeal.main_v153_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_v328) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S129024x40 : Shape := ⟨2, ![129024, 40]⟩
abbrev S2x129024 : Shape := ⟨2, ![2, 129024]⟩
abbrev S129024 : Shape := ⟨1, ![129024]⟩
abbrev S32x1x4x7 : Shape := ⟨4, ![32, 1, 4, 7]⟩
abbrev S32 : Shape := ⟨1, ![32]⟩
abbrev S32x1x4x5 : Shape := ⟨4, ![32, 1, 4, 5]⟩
abbrev S32x1x4x3 : Shape := ⟨4, ![32, 1, 4, 3]⟩
abbrev S32x1x4x1 : Shape := ⟨4, ![32, 1, 4, 1]⟩
abbrev S128x64 : Shape := ⟨2, ![128, 64]⟩
abbrev S64 : Shape := ⟨1, ![64]⟩
abbrev S128x32 : Shape := ⟨2, ![128, 32]⟩
abbrev S192x64 : Shape := ⟨2, ![192, 64]⟩
abbrev S192x32 : Shape := ⟨2, ![192, 32]⟩
abbrev S256x64 : Shape := ⟨2, ![256, 64]⟩
abbrev S256x32 : Shape := ⟨2, ![256, 32]⟩
abbrev S320x64 : Shape := ⟨2, ![320, 64]⟩
abbrev S320x32 : Shape := ⟨2, ![320, 32]⟩
abbrev S16128x3 : Shape := ⟨2, ![16128, 3]⟩
abbrev S3 : Shape := ⟨1, ![3]⟩
abbrev S129024x4x10 : Shape := ⟨3, ![129024, 4, 10]⟩
abbrev S_ : Shape := ⟨0, ![]⟩
abbrev S129024x4x32 : Shape := ⟨3, ![129024, 4, 32]⟩
abbrev S129024x4x4 : Shape := ⟨3, ![129024, 4, 4]⟩
abbrev S32x4 : Shape := ⟨2, ![32, 4]⟩
abbrev S129024x32x4 : Shape := ⟨3, ![129024, 32, 4]⟩
abbrev S1x32x1 : Shape := ⟨3, ![1, 32, 1]⟩
abbrev S1024x126x128 : Shape := ⟨3, ![1024, 126, 128]⟩
abbrev S1024x126x64 : Shape := ⟨3, ![1024, 126, 64]⟩
abbrev S1x1x64 : Shape := ⟨3, ![1, 1, 64]⟩
abbrev S1024x64x126 : Shape := ⟨3, ![1024, 64, 126]⟩
abbrev S1024x126x126 : Shape := ⟨3, ![1024, 126, 126]⟩
abbrev S126x126 : Shape := ⟨2, ![126, 126]⟩
abbrev S1x1x126x126 : Shape := ⟨4, ![1, 1, 126, 126]⟩
abbrev S1024x126x126x1 : Shape := ⟨4, ![1024, 126, 126, 1]⟩
abbrev S1024x126x1x126 : Shape := ⟨4, ![1024, 126, 1, 126]⟩
abbrev S1024x126x126x126 : Shape := ⟨4, ![1024, 126, 126, 126]⟩
abbrev S129024x6x32 : Shape := ⟨3, ![129024, 6, 32]⟩
abbrev S129024x4x6 : Shape := ⟨3, ![129024, 4, 6]⟩
abbrev S129024x32x6 : Shape := ⟨3, ![129024, 32, 6]⟩
abbrev S1024x126x192 : Shape := ⟨3, ![1024, 126, 192]⟩
abbrev S129024x8x32 : Shape := ⟨3, ![129024, 8, 32]⟩
abbrev S129024x4x8 : Shape := ⟨3, ![129024, 4, 8]⟩
abbrev S129024x32x8 : Shape := ⟨3, ![129024, 32, 8]⟩
abbrev S1024x126x256 : Shape := ⟨3, ![1024, 126, 256]⟩
abbrev S129024x10x32 : Shape := ⟨3, ![129024, 10, 32]⟩
abbrev S129024x32x10 : Shape := ⟨3, ![129024, 32, 10]⟩
abbrev S1024x126x320 : Shape := ⟨3, ![1024, 126, 320]⟩

class Facts : Prop where
  shapeCasts_S129024x40_S129024x4x10 : S129024x40.ShapeCasts S129024x4x10
  bcast_S_S129024x4x32 : S_.BroadcastsInDim S129024x4x32 (![] : Fin 0 → Fin S129024x4x32.rank)
  slices_S129024x4x10_S129024x4x4_0_0_0 : S129024x4x10.Slices ![0, 0, 0] S129024x4x4
  slices_S32x1x4x7_S32x1x4x1_0_0_0_0 : S32x1x4x7.Slices ![0, 0, 0, 0] S32x1x4x1
  shapeCasts_S32x1x4x1_S32x4 : S32x1x4x1.ShapeCasts S32x4
  slices_S129024x4x10_S129024x4x4_0_0_1 : S129024x4x10.Slices ![0, 0, 1] S129024x4x4
  slices_S32x1x4x7_S32x1x4x1_0_0_0_1 : S32x1x4x7.Slices ![0, 0, 0, 1] S32x1x4x1
  slices_S129024x4x10_S129024x4x4_0_0_2 : S129024x4x10.Slices ![0, 0, 2] S129024x4x4
  slices_S32x1x4x7_S32x1x4x1_0_0_0_2 : S32x1x4x7.Slices ![0, 0, 0, 2] S32x1x4x1
  slices_S129024x4x10_S129024x4x4_0_0_3 : S129024x4x10.Slices ![0, 0, 3] S129024x4x4
  slices_S32x1x4x7_S32x1x4x1_0_0_0_3 : S32x1x4x7.Slices ![0, 0, 0, 3] S32x1x4x1
  slices_S129024x4x10_S129024x4x4_0_0_4 : S129024x4x10.Slices ![0, 0, 4] S129024x4x4
  slices_S32x1x4x7_S32x1x4x1_0_0_0_4 : S32x1x4x7.Slices ![0, 0, 0, 4] S32x1x4x1
  slices_S129024x4x10_S129024x4x4_0_0_5 : S129024x4x10.Slices ![0, 0, 5] S129024x4x4
  slices_S32x1x4x7_S32x1x4x1_0_0_0_5 : S32x1x4x7.Slices ![0, 0, 0, 5] S32x1x4x1
  slices_S129024x4x10_S129024x4x4_0_0_6 : S129024x4x10.Slices ![0, 0, 6] S129024x4x4
  slices_S32x1x4x7_S32x1x4x1_0_0_0_6 : S32x1x4x7.Slices ![0, 0, 0, 6] S32x1x4x1
  transposes_S129024x4x32_S129024x32x4_0_2_1 : S129024x4x32.Transposes [0, 2, 1] S129024x32x4
  bcast_S32_S1x32x1_1 : S32.BroadcastsInDim S1x32x1 (![1] : Fin 1 → Fin S1x32x1.rank)
  bcast_S1x32x1_S129024x32x4_0_1_2 : S1x32x1.BroadcastsInDim S129024x32x4 (![0, 1, 2] : Fin 3 → Fin S129024x32x4.rank)
  bcast_S_S129024x32x4 : S_.BroadcastsInDim S129024x32x4 (![] : Fin 0 → Fin S129024x32x4.rank)
  shapeCasts_S129024x32x4_S1024x126x128 : S129024x32x4.ShapeCasts S1024x126x128
  bcast_S64_S1x1x64_2 : S64.BroadcastsInDim S1x1x64 (![2] : Fin 1 → Fin S1x1x64.rank)
  bcast_S1x1x64_S1024x126x64_0_1_2 : S1x1x64.BroadcastsInDim S1024x126x64 (![0, 1, 2] : Fin 3 → Fin S1024x126x64.rank)
  transposes_S1024x126x64_S1024x64x126_0_2_1 : S1024x126x64.Transposes [0, 2, 1] S1024x64x126
  bcast_S_S126x126 : S_.BroadcastsInDim S126x126 (![] : Fin 0 → Fin S126x126.rank)
  bcast_S126x126_S1x1x126x126_2_3 : S126x126.BroadcastsInDim S1x1x126x126 (![2, 3] : Fin 2 → Fin S1x1x126x126.rank)
  bcast_S1024x126x126_S1024x126x126x1_0_1_2 : S1024x126x126.BroadcastsInDim S1024x126x126x1 (![0, 1, 2] : Fin 3 → Fin S1024x126x126x1.rank)
  bcast_S1024x126x126_S1024x126x1x126_0_1_3 : S1024x126x126.BroadcastsInDim S1024x126x1x126 (![0, 1, 3] : Fin 3 → Fin S1024x126x1x126.rank)
  bcast_S1024x126x126x1_S1024x126x126x126_0_1_2_3 : S1024x126x126x1.BroadcastsInDim S1024x126x126x126 (![0, 1, 2, 3] : Fin 4 → Fin S1024x126x126x126.rank)
  bcast_S1024x126x1x126_S1024x126x126x126_0_1_2_3 : S1024x126x1x126.BroadcastsInDim S1024x126x126x126 (![0, 1, 2, 3] : Fin 4 → Fin S1024x126x126x126.rank)
  bcast_S1x1x126x126_S1024x126x126x126_0_1_2_3 : S1x1x126x126.BroadcastsInDim S1024x126x126x126 (![0, 1, 2, 3] : Fin 4 → Fin S1024x126x126x126.rank)
  reducesTo_S1024x126x126x126_S_d0_1_2_3 : S1024x126x126x126.ReducesTo [0, 1, 2, 3] S_
  h_S_ : 0 < S_.numel
  bcast_S_S129024x6x32 : S_.BroadcastsInDim S129024x6x32 (![] : Fin 0 → Fin S129024x6x32.rank)
  slices_S129024x4x10_S129024x4x6_0_0_0 : S129024x4x10.Slices ![0, 0, 0] S129024x4x6
  slices_S32x1x4x5_S32x1x4x1_0_0_0_0 : S32x1x4x5.Slices ![0, 0, 0, 0] S32x1x4x1
  slices_S129024x4x10_S129024x4x6_0_0_1 : S129024x4x10.Slices ![0, 0, 1] S129024x4x6
  slices_S32x1x4x5_S32x1x4x1_0_0_0_1 : S32x1x4x5.Slices ![0, 0, 0, 1] S32x1x4x1
  slices_S129024x4x10_S129024x4x6_0_0_2 : S129024x4x10.Slices ![0, 0, 2] S129024x4x6
  slices_S32x1x4x5_S32x1x4x1_0_0_0_2 : S32x1x4x5.Slices ![0, 0, 0, 2] S32x1x4x1
  slices_S129024x4x10_S129024x4x6_0_0_3 : S129024x4x10.Slices ![0, 0, 3] S129024x4x6
  slices_S32x1x4x5_S32x1x4x1_0_0_0_3 : S32x1x4x5.Slices ![0, 0, 0, 3] S32x1x4x1
  slices_S129024x4x10_S129024x4x6_0_0_4 : S129024x4x10.Slices ![0, 0, 4] S129024x4x6
  slices_S32x1x4x5_S32x1x4x1_0_0_0_4 : S32x1x4x5.Slices ![0, 0, 0, 4] S32x1x4x1
  transposes_S129024x6x32_S129024x32x6_0_2_1 : S129024x6x32.Transposes [0, 2, 1] S129024x32x6
  bcast_S1x32x1_S129024x32x6_0_1_2 : S1x32x1.BroadcastsInDim S129024x32x6 (![0, 1, 2] : Fin 3 → Fin S129024x32x6.rank)
  bcast_S_S129024x32x6 : S_.BroadcastsInDim S129024x32x6 (![] : Fin 0 → Fin S129024x32x6.rank)
  shapeCasts_S129024x32x6_S1024x126x192 : S129024x32x6.ShapeCasts S1024x126x192
  bcast_S_S129024x8x32 : S_.BroadcastsInDim S129024x8x32 (![] : Fin 0 → Fin S129024x8x32.rank)
  slices_S129024x4x10_S129024x4x8_0_0_0 : S129024x4x10.Slices ![0, 0, 0] S129024x4x8
  slices_S32x1x4x3_S32x1x4x1_0_0_0_0 : S32x1x4x3.Slices ![0, 0, 0, 0] S32x1x4x1
  slices_S129024x4x10_S129024x4x8_0_0_1 : S129024x4x10.Slices ![0, 0, 1] S129024x4x8
  slices_S32x1x4x3_S32x1x4x1_0_0_0_1 : S32x1x4x3.Slices ![0, 0, 0, 1] S32x1x4x1
  slices_S129024x4x10_S129024x4x8_0_0_2 : S129024x4x10.Slices ![0, 0, 2] S129024x4x8
  slices_S32x1x4x3_S32x1x4x1_0_0_0_2 : S32x1x4x3.Slices ![0, 0, 0, 2] S32x1x4x1
  transposes_S129024x8x32_S129024x32x8_0_2_1 : S129024x8x32.Transposes [0, 2, 1] S129024x32x8
  bcast_S1x32x1_S129024x32x8_0_1_2 : S1x32x1.BroadcastsInDim S129024x32x8 (![0, 1, 2] : Fin 3 → Fin S129024x32x8.rank)
  bcast_S_S129024x32x8 : S_.BroadcastsInDim S129024x32x8 (![] : Fin 0 → Fin S129024x32x8.rank)
  shapeCasts_S129024x32x8_S1024x126x256 : S129024x32x8.ShapeCasts S1024x126x256
  bcast_S_S129024x10x32 : S_.BroadcastsInDim S129024x10x32 (![] : Fin 0 → Fin S129024x10x32.rank)
  transposes_S129024x10x32_S129024x32x10_0_2_1 : S129024x10x32.Transposes [0, 2, 1] S129024x32x10
  bcast_S1x32x1_S129024x32x10_0_1_2 : S1x32x1.BroadcastsInDim S129024x32x10 (![0, 1, 2] : Fin 3 → Fin S129024x32x10.rank)
  bcast_S_S129024x32x10 : S_.BroadcastsInDim S129024x32x10 (![] : Fin 0 → Fin S129024x32x10.rank)
  shapeCasts_S129024x32x10_S1024x126x320 : S129024x32x10.ShapeCasts S1024x126x320
  dot_S129024x4x4_S32x4_S129024x4x32_1_1_02_0_n_n_wf : DotDims.WF S129024x4x4 S32x4 S129024x4x32 [1] [1] [0, 2] [0] [] []
  dot_S1024x126x128_S128x64_S1024x126x64_2_0_01_1_n_n_wf : DotDims.WF S1024x126x128 S128x64 S1024x126x64 [2] [0] [0, 1] [1] [] []
  dot_S1024x126x64_S1024x64x126_S1024x126x126_2_1_1_2_0_0_wf : DotDims.WF S1024x126x64 S1024x64x126 S1024x126x126 [2] [1] [1] [2] [0] [0]
  dot_S129024x4x6_S32x4_S129024x6x32_1_1_02_0_n_n_wf : DotDims.WF S129024x4x6 S32x4 S129024x6x32 [1] [1] [0, 2] [0] [] []
  dot_S1024x126x192_S192x64_S1024x126x64_2_0_01_1_n_n_wf : DotDims.WF S1024x126x192 S192x64 S1024x126x64 [2] [0] [0, 1] [1] [] []
  dot_S129024x4x8_S32x4_S129024x8x32_1_1_02_0_n_n_wf : DotDims.WF S129024x4x8 S32x4 S129024x8x32 [1] [1] [0, 2] [0] [] []
  dot_S1024x126x256_S256x64_S1024x126x64_2_0_01_1_n_n_wf : DotDims.WF S1024x126x256 S256x64 S1024x126x64 [2] [0] [0, 1] [1] [] []
  dot_S129024x4x10_S32x4_S129024x10x32_1_1_02_0_n_n_wf : DotDims.WF S129024x4x10 S32x4 S129024x10x32 [1] [1] [0, 2] [0] [] []
  dot_S1024x126x320_S320x64_S1024x126x64_2_0_01_1_n_n_wf : DotDims.WF S1024x126x320 S320x64 S1024x126x64 [2] [0] [0, 1] [1] [] []

variable [Facts]

def dot_S129024x4x4_S32x4_S129024x4x32_1_1_02_0_n_n : DotDims S129024x4x4 S32x4 S129024x4x32 where
  lhsContracting := [1]
  rhsContracting := [1]
  lhsNonContracting := [0, 2]
  rhsNonContracting := [0]
  lhsBatch := []
  rhsBatch := []
  wf := dot_S129024x4x4_S32x4_S129024x4x32_1_1_02_0_n_n_wf
def dot_S1024x126x128_S128x64_S1024x126x64_2_0_01_1_n_n : DotDims S1024x126x128 S128x64 S1024x126x64 where
  lhsContracting := [2]
  rhsContracting := [0]
  lhsNonContracting := [0, 1]
  rhsNonContracting := [1]
  lhsBatch := []
  rhsBatch := []
  wf := dot_S1024x126x128_S128x64_S1024x126x64_2_0_01_1_n_n_wf
def dot_S1024x126x64_S1024x64x126_S1024x126x126_2_1_1_2_0_0 : DotDims S1024x126x64 S1024x64x126 S1024x126x126 where
  lhsContracting := [2]
  rhsContracting := [1]
  lhsNonContracting := [1]
  rhsNonContracting := [2]
  lhsBatch := [0]
  rhsBatch := [0]
  wf := dot_S1024x126x64_S1024x64x126_S1024x126x126_2_1_1_2_0_0_wf
def dot_S129024x4x6_S32x4_S129024x6x32_1_1_02_0_n_n : DotDims S129024x4x6 S32x4 S129024x6x32 where
  lhsContracting := [1]
  rhsContracting := [1]
  lhsNonContracting := [0, 2]
  rhsNonContracting := [0]
  lhsBatch := []
  rhsBatch := []
  wf := dot_S129024x4x6_S32x4_S129024x6x32_1_1_02_0_n_n_wf
def dot_S1024x126x192_S192x64_S1024x126x64_2_0_01_1_n_n : DotDims S1024x126x192 S192x64 S1024x126x64 where
  lhsContracting := [2]
  rhsContracting := [0]
  lhsNonContracting := [0, 1]
  rhsNonContracting := [1]
  lhsBatch := []
  rhsBatch := []
  wf := dot_S1024x126x192_S192x64_S1024x126x64_2_0_01_1_n_n_wf
def dot_S129024x4x8_S32x4_S129024x8x32_1_1_02_0_n_n : DotDims S129024x4x8 S32x4 S129024x8x32 where
  lhsContracting := [1]
  rhsContracting := [1]
  lhsNonContracting := [0, 2]
  rhsNonContracting := [0]
  lhsBatch := []
  rhsBatch := []
  wf := dot_S129024x4x8_S32x4_S129024x8x32_1_1_02_0_n_n_wf
def dot_S1024x126x256_S256x64_S1024x126x64_2_0_01_1_n_n : DotDims S1024x126x256 S256x64 S1024x126x64 where
  lhsContracting := [2]
  rhsContracting := [0]
  lhsNonContracting := [0, 1]
  rhsNonContracting := [1]
  lhsBatch := []
  rhsBatch := []
  wf := dot_S1024x126x256_S256x64_S1024x126x64_2_0_01_1_n_n_wf
def dot_S129024x4x10_S32x4_S129024x10x32_1_1_02_0_n_n : DotDims S129024x4x10 S32x4 S129024x10x32 where
  lhsContracting := [1]
  rhsContracting := [1]
  lhsNonContracting := [0, 2]
  rhsNonContracting := [0]
  lhsBatch := []
  rhsBatch := []
  wf := dot_S129024x4x10_S32x4_S129024x10x32_1_1_02_0_n_n_wf
def dot_S1024x126x320_S320x64_S1024x126x64_2_0_01_1_n_n : DotDims S1024x126x320 S320x64 S1024x126x64 where
  lhsContracting := [2]
  rhsContracting := [0]
  lhsNonContracting := [0, 1]
  rhsNonContracting := [1]
  lhsBatch := []
  rhsBatch := []
  wf := dot_S1024x126x320_S320x64_S1024x126x64_2_0_01_1_n_n_wf
def fn_relu {F : FTy → Type} [FloatOps F] (arg0 : FVec F S129024x32x4 .f32) : FVec F S129024x32x4 .f32 :=
  let cst : FVec F S_ .f32 := constant S_ .f32 0x00000000#32
  let v0 : FVec F S129024x32x4 .f32 := broadcastInDim S129024x32x4 ![] bcast_S_S129024x32x4 cst
  let v1 : FVec F S129024x32x4 .f32 := maximumf arg0 v0
  v1

def fn_relu_0 {F : FTy → Type} [FloatOps F] (arg0 : FVec F S129024x32x6 .f32) : FVec F S129024x32x6 .f32 :=
  let cst : FVec F S_ .f32 := constant S_ .f32 0x00000000#32
  let v0 : FVec F S129024x32x6 .f32 := broadcastInDim S129024x32x6 ![] bcast_S_S129024x32x6 cst
  let v1 : FVec F S129024x32x6 .f32 := maximumf arg0 v0
  v1

def fn_relu_1 {F : FTy → Type} [FloatOps F] (arg0 : FVec F S129024x32x8 .f32) : FVec F S129024x32x8 .f32 :=
  let cst : FVec F S_ .f32 := constant S_ .f32 0x00000000#32
  let v0 : FVec F S129024x32x8 .f32 := broadcastInDim S129024x32x8 ![] bcast_S_S129024x32x8 cst
  let v1 : FVec F S129024x32x8 .f32 := maximumf arg0 v0
  v1

def fn_relu_2 {F : FTy → Type} [FloatOps F] (arg0 : FVec F S129024x32x10 .f32) : FVec F S129024x32x10 .f32 :=
  let cst : FVec F S_ .f32 := constant S_ .f32 0x00000000#32
  let v0 : FVec F S129024x32x10 .f32 := broadcastInDim S129024x32x10 ![] bcast_S_S129024x32x10 cst
  let v1 : FVec F S129024x32x10 .f32 := maximumf arg0 v0
  v1

def fn_part8 {F : FTy → Type} [FloatOps F] (main_v63 : IVec S_ 1) (main_v117 : IVec S_ 1) (main_v161 : IVec S_ 1) (main_v179 : FVec F S1024x126x126 .f32) (main_v180 : IVec S126x126 32) (main_v181 : IVec S126x126 32) : IVec S_ 1 :=
  let main_c_8 : IVec S_ 32 := constantI S_ 32 0#32
  let main_v182 : IVec S126x126 32 := broadcastInDim S126x126 ![] bcast_S_S126x126 main_c_8
  let main_v183 : IVec S126x126 32 := addi main_v180 main_v182
  let main_v184 : IVec S126x126 1 := cmpi .eq main_v183 main_v181
  let main_v185 : IVec S1x1x126x126 1 := broadcastInDim S1x1x126x126 ![2, 3] bcast_S126x126_S1x1x126x126_2_3 main_v184
  let main_v186 : FVec F S1024x126x126x1 .f32 := broadcastInDim S1024x126x126x1 ![0, 1, 2] bcast_S1024x126x126_S1024x126x126x1_0_1_2 main_v179
  let main_v187 : FVec F S1024x126x1x126 .f32 := broadcastInDim S1024x126x1x126 ![0, 1, 3] bcast_S1024x126x126_S1024x126x1x126_0_1_3 main_v179
  let main_v188 : FVec F S1024x126x126x126 .f32 := broadcastInDim S1024x126x126x126 ![0, 1, 2, 3] bcast_S1024x126x126x1_S1024x126x126x126_0_1_2_3 main_v186
  let main_v189 : FVec F S1024x126x126x126 .f32 := broadcastInDim S1024x126x126x126 ![0, 1, 2, 3] bcast_S1024x126x1x126_S1024x126x126x126_0_1_2_3 main_v187
  let main_v190 : IVec S1024x126x126x126 1 := cmpf .une main_v188 main_v189
  let main_v191 : IVec S1024x126x126x126 1 := broadcastInDim S1024x126x126x126 ![0, 1, 2, 3] bcast_S1x1x126x126_S1024x126x126x126_0_1_2_3 main_v185
  let main_v192 : IVec S1024x126x126x126 1 := ori main_v190 main_v191
  let main_c_9 : IVec S_ 1 := constantI S_ 1 1#1
  let main_v193 : IVec S_ 1 := (fun x v => Host.reduce IntOp.andi x v reducesTo_S1024x126x126x126_S_d0_1_2_3 h_S_) main_v192 main_c_9
  let main_v194 : IVec S_ 1 := andi main_v63 main_v117
  let main_v195 : IVec S_ 1 := andi main_v194 main_v161
  let main_v196 : IVec S_ 1 := andi main_v195 main_v193
  main_v196

def fn_part7 {F : FTy → Type} [FloatOps F] (main_arg0 : FVec F S129024x40 .f32) (main_arg9 : FVec F S32x1x4x1 .f32) (main_arg10 : FVec F S32 .f32) (main_arg23 : FVec F S320x64 .f32) (main_arg24 : FVec F S64 .f32) (main_v63 : IVec S_ 1) (main_v117 : IVec S_ 1) (main_v158 : IVec S1024x126x126x126 1) (main_v159 : IVec S1024x126x126x126 1) : IVec S_ 1 :=
  let main_v160 : IVec S1024x126x126x126 1 := ori main_v158 main_v159
  let main_c_6 : IVec S_ 1 := constantI S_ 1 1#1
  let main_v161 : IVec S_ 1 := (fun x v => Host.reduce IntOp.andi x v reducesTo_S1024x126x126x126_S_d0_1_2_3 h_S_) main_v160 main_c_6
  let main_v162 : FVec F S129024x4x10 .f32 := shapeCast S129024x4x10 main_arg0 shapeCasts_S129024x40_S129024x4x10
  let main_cst_7 : FVec F S_ .f32 := constant S_ .f32 0x00000000#32
  let main_v163 : FVec F S129024x10x32 .f32 := broadcastInDim S129024x10x32 ![] bcast_S_S129024x10x32 main_cst_7
  let main_v164 : FVec F S32x4 .f32 := shapeCast S32x4 main_arg9 shapeCasts_S32x1x4x1_S32x4
  let main_v165 : FVec F S129024x10x32 .f32 := (fun l r => Host.dotGeneral dot_S129024x4x10_S32x4_S129024x10x32_1_1_02_0_n_n none l r) main_v162 main_v164
  let main_v166 : FVec F S129024x10x32 .f32 := addf main_v163 main_v165
  let main_v167 : FVec F S129024x32x10 .f32 := (transpose S129024x32x10 [0, 2, 1] · transposes_S129024x10x32_S129024x32x10_0_2_1) main_v166
  let main_v168 : FVec F S1x32x1 .f32 := broadcastInDim S1x32x1 ![1] bcast_S32_S1x32x1_1 main_arg10
  let main_v169 : FVec F S129024x32x10 .f32 := broadcastInDim S129024x32x10 ![0, 1, 2] bcast_S1x32x1_S129024x32x10_0_1_2 main_v168
  let main_v170 : FVec F S129024x32x10 .f32 := addf main_v167 main_v169
  let main_v171 : FVec F S129024x32x10 .f32 := fn_relu_2 (F := F) main_v170
  let main_v172 : FVec F S1024x126x320 .f32 := shapeCast S1024x126x320 main_v171 shapeCasts_S129024x32x10_S1024x126x320
  let main_v173 : FVec F S1024x126x64 .f32 := (fun l r => Host.dotGeneral dot_S1024x126x320_S320x64_S1024x126x64_2_0_01_1_n_n none l r) main_v172 main_arg23
  let main_v174 : FVec F S1x1x64 .f32 := broadcastInDim S1x1x64 ![2] bcast_S64_S1x1x64_2 main_arg24
  let main_v175 : FVec F S1024x126x64 .f32 := broadcastInDim S1024x126x64 ![0, 1, 2] bcast_S1x1x64_S1024x126x64_0_1_2 main_v174
  let main_v176 : FVec F S1024x126x64 .f32 := addf main_v173 main_v175
  let main_v177 : FVec F S1024x126x64 .f32 := Host.tanh main_v176
  let main_v178 : FVec F S1024x64x126 .f32 := (transpose S1024x64x126 [0, 2, 1] · transposes_S1024x126x64_S1024x64x126_0_2_1) main_v177
  let main_v179 : FVec F S1024x126x126 .f32 := (fun l r => Host.dotGeneral dot_S1024x126x64_S1024x64x126_S1024x126x126_2_1_1_2_0_0 none l r) main_v177 main_v178
  let main_v180 : IVec S126x126 32 := iotaInDim S126x126 32 0
  let main_v181 : IVec S126x126 32 := iotaInDim S126x126 32 1
  fn_part8 (F := F) main_v63 main_v117 main_v161 main_v179 main_v180 main_v181

def fn_part6 {F : FTy → Type} [FloatOps F] (main_arg0 : FVec F S129024x40 .f32) (main_arg9 : FVec F S32x1x4x1 .f32) (main_arg10 : FVec F S32 .f32) (main_arg19 : FVec F S256x64 .f32) (main_arg20 : FVec F S64 .f32) (main_arg23 : FVec F S320x64 .f32) (main_arg24 : FVec F S64 .f32) (main_v63 : IVec S_ 1) (main_v117 : IVec S_ 1) (main_v135 : FVec F S129024x32x8 .f32) (main_v136 : FVec F S1x32x1 .f32) : IVec S_ 1 :=
  let main_v137 : FVec F S129024x32x8 .f32 := broadcastInDim S129024x32x8 ![0, 1, 2] bcast_S1x32x1_S129024x32x8_0_1_2 main_v136
  let main_v138 : FVec F S129024x32x8 .f32 := addf main_v135 main_v137
  let main_v139 : FVec F S129024x32x8 .f32 := fn_relu_1 (F := F) main_v138
  let main_v140 : FVec F S1024x126x256 .f32 := shapeCast S1024x126x256 main_v139 shapeCasts_S129024x32x8_S1024x126x256
  let main_v141 : FVec F S1024x126x64 .f32 := (fun l r => Host.dotGeneral dot_S1024x126x256_S256x64_S1024x126x64_2_0_01_1_n_n none l r) main_v140 main_arg19
  let main_v142 : FVec F S1x1x64 .f32 := broadcastInDim S1x1x64 ![2] bcast_S64_S1x1x64_2 main_arg20
  let main_v143 : FVec F S1024x126x64 .f32 := broadcastInDim S1024x126x64 ![0, 1, 2] bcast_S1x1x64_S1024x126x64_0_1_2 main_v142
  let main_v144 : FVec F S1024x126x64 .f32 := addf main_v141 main_v143
  let main_v145 : FVec F S1024x126x64 .f32 := Host.tanh main_v144
  let main_v146 : FVec F S1024x64x126 .f32 := (transpose S1024x64x126 [0, 2, 1] · transposes_S1024x126x64_S1024x64x126_0_2_1) main_v145
  let main_v147 : FVec F S1024x126x126 .f32 := (fun l r => Host.dotGeneral dot_S1024x126x64_S1024x64x126_S1024x126x126_2_1_1_2_0_0 none l r) main_v145 main_v146
  let main_v148 : IVec S126x126 32 := iotaInDim S126x126 32 0
  let main_v149 : IVec S126x126 32 := iotaInDim S126x126 32 1
  let main_c_5 : IVec S_ 32 := constantI S_ 32 0#32
  let main_v150 : IVec S126x126 32 := broadcastInDim S126x126 ![] bcast_S_S126x126 main_c_5
  let main_v151 : IVec S126x126 32 := addi main_v148 main_v150
  let main_v152 : IVec S126x126 1 := cmpi .eq main_v151 main_v149
  let main_v153 : IVec S1x1x126x126 1 := broadcastInDim S1x1x126x126 ![2, 3] bcast_S126x126_S1x1x126x126_2_3 main_v152
  let main_v154 : FVec F S1024x126x126x1 .f32 := broadcastInDim S1024x126x126x1 ![0, 1, 2] bcast_S1024x126x126_S1024x126x126x1_0_1_2 main_v147
  let main_v155 : FVec F S1024x126x1x126 .f32 := broadcastInDim S1024x126x1x126 ![0, 1, 3] bcast_S1024x126x126_S1024x126x1x126_0_1_3 main_v147
  let main_v156 : FVec F S1024x126x126x126 .f32 := broadcastInDim S1024x126x126x126 ![0, 1, 2, 3] bcast_S1024x126x126x1_S1024x126x126x126_0_1_2_3 main_v154
  let main_v157 : FVec F S1024x126x126x126 .f32 := broadcastInDim S1024x126x126x126 ![0, 1, 2, 3] bcast_S1024x126x1x126_S1024x126x126x126_0_1_2_3 main_v155
  let main_v158 : IVec S1024x126x126x126 1 := cmpf .une main_v156 main_v157
  let main_v159 : IVec S1024x126x126x126 1 := broadcastInDim S1024x126x126x126 ![0, 1, 2, 3] bcast_S1x1x126x126_S1024x126x126x126_0_1_2_3 main_v153
  fn_part7 (F := F) main_arg0 main_arg9 main_arg10 main_arg23 main_arg24 main_v63 main_v117 main_v158 main_v159

def fn_part5 {F : FTy → Type} [FloatOps F] (main_arg0 : FVec F S129024x40 .f32) (main_arg7 : FVec F S32x1x4x3 .f32) (main_arg8 : FVec F S32 .f32) (main_arg9 : FVec F S32x1x4x1 .f32) (main_arg10 : FVec F S32 .f32) (main_arg19 : FVec F S256x64 .f32) (main_arg20 : FVec F S64 .f32) (main_arg23 : FVec F S320x64 .f32) (main_arg24 : FVec F S64 .f32) (main_v63 : IVec S_ 1) (main_v109 : IVec S1x1x126x126 1) (main_v114 : IVec S1024x126x126x126 1) : IVec S_ 1 :=
  let main_v115 : IVec S1024x126x126x126 1 := broadcastInDim S1024x126x126x126 ![0, 1, 2, 3] bcast_S1x1x126x126_S1024x126x126x126_0_1_2_3 main_v109
  let main_v116 : IVec S1024x126x126x126 1 := ori main_v114 main_v115
  let main_c_3 : IVec S_ 1 := constantI S_ 1 1#1
  let main_v117 : IVec S_ 1 := (fun x v => Host.reduce IntOp.andi x v reducesTo_S1024x126x126x126_S_d0_1_2_3 h_S_) main_v116 main_c_3
  let main_v118 : FVec F S129024x4x10 .f32 := shapeCast S129024x4x10 main_arg0 shapeCasts_S129024x40_S129024x4x10
  let main_cst_4 : FVec F S_ .f32 := constant S_ .f32 0x00000000#32
  let main_v119 : FVec F S129024x8x32 .f32 := broadcastInDim S129024x8x32 ![] bcast_S_S129024x8x32 main_cst_4
  let main_v120 : FVec F S129024x4x8 .f32 := (extractStridedSlice S129024x4x8 ![0, 0, 0] · slices_S129024x4x10_S129024x4x8_0_0_0) main_v118
  let main_v121 : FVec F S32x1x4x1 .f32 := (extractStridedSlice S32x1x4x1 ![0, 0, 0, 0] · slices_S32x1x4x3_S32x1x4x1_0_0_0_0) main_arg7
  let main_v122 : FVec F S32x4 .f32 := shapeCast S32x4 main_v121 shapeCasts_S32x1x4x1_S32x4
  let main_v123 : FVec F S129024x8x32 .f32 := (fun l r => Host.dotGeneral dot_S129024x4x8_S32x4_S129024x8x32_1_1_02_0_n_n none l r) main_v120 main_v122
  let main_v124 : FVec F S129024x8x32 .f32 := addf main_v119 main_v123
  let main_v125 : FVec F S129024x4x8 .f32 := (extractStridedSlice S129024x4x8 ![0, 0, 1] · slices_S129024x4x10_S129024x4x8_0_0_1) main_v118
  let main_v126 : FVec F S32x1x4x1 .f32 := (extractStridedSlice S32x1x4x1 ![0, 0, 0, 1] · slices_S32x1x4x3_S32x1x4x1_0_0_0_1) main_arg7
  let main_v127 : FVec F S32x4 .f32 := shapeCast S32x4 main_v126 shapeCasts_S32x1x4x1_S32x4
  let main_v128 : FVec F S129024x8x32 .f32 := (fun l r => Host.dotGeneral dot_S129024x4x8_S32x4_S129024x8x32_1_1_02_0_n_n none l r) main_v125 main_v127
  let main_v129 : FVec F S129024x8x32 .f32 := addf main_v124 main_v128
  let main_v130 : FVec F S129024x4x8 .f32 := (extractStridedSlice S129024x4x8 ![0, 0, 2] · slices_S129024x4x10_S129024x4x8_0_0_2) main_v118
  let main_v131 : FVec F S32x1x4x1 .f32 := (extractStridedSlice S32x1x4x1 ![0, 0, 0, 2] · slices_S32x1x4x3_S32x1x4x1_0_0_0_2) main_arg7
  let main_v132 : FVec F S32x4 .f32 := shapeCast S32x4 main_v131 shapeCasts_S32x1x4x1_S32x4
  let main_v133 : FVec F S129024x8x32 .f32 := (fun l r => Host.dotGeneral dot_S129024x4x8_S32x4_S129024x8x32_1_1_02_0_n_n none l r) main_v130 main_v132
  let main_v134 : FVec F S129024x8x32 .f32 := addf main_v129 main_v133
  let main_v135 : FVec F S129024x32x8 .f32 := (transpose S129024x32x8 [0, 2, 1] · transposes_S129024x8x32_S129024x32x8_0_2_1) main_v134
  let main_v136 : FVec F S1x32x1 .f32 := broadcastInDim S1x32x1 ![1] bcast_S32_S1x32x1_1 main_arg8
  fn_part6 (F := F) main_arg0 main_arg9 main_arg10 main_arg19 main_arg20 main_arg23 main_arg24 main_v63 main_v117 main_v135 main_v136

def fn_part4 {F : FTy → Type} [FloatOps F] (main_arg0 : FVec F S129024x40 .f32) (main_arg6 : FVec F S32 .f32) (main_arg7 : FVec F S32x1x4x3 .f32) (main_arg8 : FVec F S32 .f32) (main_arg9 : FVec F S32x1x4x1 .f32) (main_arg10 : FVec F S32 .f32) (main_arg15 : FVec F S192x64 .f32) (main_arg16 : FVec F S64 .f32) (main_arg19 : FVec F S256x64 .f32) (main_arg20 : FVec F S64 .f32) (main_arg23 : FVec F S320x64 .f32) (main_arg24 : FVec F S64 .f32) (main_v63 : IVec S_ 1) (main_v91 : FVec F S129024x32x6 .f32) : IVec S_ 1 :=
  let main_v92 : FVec F S1x32x1 .f32 := broadcastInDim S1x32x1 ![1] bcast_S32_S1x32x1_1 main_arg6
  let main_v93 : FVec F S129024x32x6 .f32 := broadcastInDim S129024x32x6 ![0, 1, 2] bcast_S1x32x1_S129024x32x6_0_1_2 main_v92
  let main_v94 : FVec F S129024x32x6 .f32 := addf main_v91 main_v93
  let main_v95 : FVec F S129024x32x6 .f32 := fn_relu_0 (F := F) main_v94
  let main_v96 : FVec F S1024x126x192 .f32 := shapeCast S1024x126x192 main_v95 shapeCasts_S129024x32x6_S1024x126x192
  let main_v97 : FVec F S1024x126x64 .f32 := (fun l r => Host.dotGeneral dot_S1024x126x192_S192x64_S1024x126x64_2_0_01_1_n_n none l r) main_v96 main_arg15
  let main_v98 : FVec F S1x1x64 .f32 := broadcastInDim S1x1x64 ![2] bcast_S64_S1x1x64_2 main_arg16
  let main_v99 : FVec F S1024x126x64 .f32 := broadcastInDim S1024x126x64 ![0, 1, 2] bcast_S1x1x64_S1024x126x64_0_1_2 main_v98
  let main_v100 : FVec F S1024x126x64 .f32 := addf main_v97 main_v99
  let main_v101 : FVec F S1024x126x64 .f32 := Host.tanh main_v100
  let main_v102 : FVec F S1024x64x126 .f32 := (transpose S1024x64x126 [0, 2, 1] · transposes_S1024x126x64_S1024x64x126_0_2_1) main_v101
  let main_v103 : FVec F S1024x126x126 .f32 := (fun l r => Host.dotGeneral dot_S1024x126x64_S1024x64x126_S1024x126x126_2_1_1_2_0_0 none l r) main_v101 main_v102
  let main_v104 : IVec S126x126 32 := iotaInDim S126x126 32 0
  let main_v105 : IVec S126x126 32 := iotaInDim S126x126 32 1
  let main_c_2 : IVec S_ 32 := constantI S_ 32 0#32
  let main_v106 : IVec S126x126 32 := broadcastInDim S126x126 ![] bcast_S_S126x126 main_c_2
  let main_v107 : IVec S126x126 32 := addi main_v104 main_v106
  let main_v108 : IVec S126x126 1 := cmpi .eq main_v107 main_v105
  let main_v109 : IVec S1x1x126x126 1 := broadcastInDim S1x1x126x126 ![2, 3] bcast_S126x126_S1x1x126x126_2_3 main_v108
  let main_v110 : FVec F S1024x126x126x1 .f32 := broadcastInDim S1024x126x126x1 ![0, 1, 2] bcast_S1024x126x126_S1024x126x126x1_0_1_2 main_v103
  let main_v111 : FVec F S1024x126x1x126 .f32 := broadcastInDim S1024x126x1x126 ![0, 1, 3] bcast_S1024x126x126_S1024x126x1x126_0_1_3 main_v103
  let main_v112 : FVec F S1024x126x126x126 .f32 := broadcastInDim S1024x126x126x126 ![0, 1, 2, 3] bcast_S1024x126x126x1_S1024x126x126x126_0_1_2_3 main_v110
  let main_v113 : FVec F S1024x126x126x126 .f32 := broadcastInDim S1024x126x126x126 ![0, 1, 2, 3] bcast_S1024x126x1x126_S1024x126x126x126_0_1_2_3 main_v111
  let main_v114 : IVec S1024x126x126x126 1 := cmpf .une main_v112 main_v113
  fn_part5 (F := F) main_arg0 main_arg7 main_arg8 main_arg9 main_arg10 main_arg19 main_arg20 main_arg23 main_arg24 main_v63 main_v109 main_v114

def fn_part3 {F : FTy → Type} [FloatOps F] (main_arg0 : FVec F S129024x40 .f32) (main_arg5 : FVec F S32x1x4x5 .f32) (main_arg6 : FVec F S32 .f32) (main_arg7 : FVec F S32x1x4x3 .f32) (main_arg8 : FVec F S32 .f32) (main_arg9 : FVec F S32x1x4x1 .f32) (main_arg10 : FVec F S32 .f32) (main_arg15 : FVec F S192x64 .f32) (main_arg16 : FVec F S64 .f32) (main_arg19 : FVec F S256x64 .f32) (main_arg20 : FVec F S64 .f32) (main_arg23 : FVec F S320x64 .f32) (main_arg24 : FVec F S64 .f32) (main_v63 : IVec S_ 1) (main_v64 : FVec F S129024x4x10 .f32) (main_v65 : FVec F S129024x6x32 .f32) (main_v66 : FVec F S129024x4x6 .f32) (main_v67 : FVec F S32x1x4x1 .f32) : IVec S_ 1 :=
  let main_v68 : FVec F S32x4 .f32 := shapeCast S32x4 main_v67 shapeCasts_S32x1x4x1_S32x4
  let main_v69 : FVec F S129024x6x32 .f32 := (fun l r => Host.dotGeneral dot_S129024x4x6_S32x4_S129024x6x32_1_1_02_0_n_n none l r) main_v66 main_v68
  let main_v70 : FVec F S129024x6x32 .f32 := addf main_v65 main_v69
  let main_v71 : FVec F S129024x4x6 .f32 := (extractStridedSlice S129024x4x6 ![0, 0, 1] · slices_S129024x4x10_S129024x4x6_0_0_1) main_v64
  let main_v72 : FVec F S32x1x4x1 .f32 := (extractStridedSlice S32x1x4x1 ![0, 0, 0, 1] · slices_S32x1x4x5_S32x1x4x1_0_0_0_1) main_arg5
  let main_v73 : FVec F S32x4 .f32 := shapeCast S32x4 main_v72 shapeCasts_S32x1x4x1_S32x4
  let main_v74 : FVec F S129024x6x32 .f32 := (fun l r => Host.dotGeneral dot_S129024x4x6_S32x4_S129024x6x32_1_1_02_0_n_n none l r) main_v71 main_v73
  let main_v75 : FVec F S129024x6x32 .f32 := addf main_v70 main_v74
  let main_v76 : FVec F S129024x4x6 .f32 := (extractStridedSlice S129024x4x6 ![0, 0, 2] · slices_S129024x4x10_S129024x4x6_0_0_2) main_v64
  let main_v77 : FVec F S32x1x4x1 .f32 := (extractStridedSlice S32x1x4x1 ![0, 0, 0, 2] · slices_S32x1x4x5_S32x1x4x1_0_0_0_2) main_arg5
  let main_v78 : FVec F S32x4 .f32 := shapeCast S32x4 main_v77 shapeCasts_S32x1x4x1_S32x4
  let main_v79 : FVec F S129024x6x32 .f32 := (fun l r => Host.dotGeneral dot_S129024x4x6_S32x4_S129024x6x32_1_1_02_0_n_n none l r) main_v76 main_v78
  let main_v80 : FVec F S129024x6x32 .f32 := addf main_v75 main_v79
  let main_v81 : FVec F S129024x4x6 .f32 := (extractStridedSlice S129024x4x6 ![0, 0, 3] · slices_S129024x4x10_S129024x4x6_0_0_3) main_v64
  let main_v82 : FVec F S32x1x4x1 .f32 := (extractStridedSlice S32x1x4x1 ![0, 0, 0, 3] · slices_S32x1x4x5_S32x1x4x1_0_0_0_3) main_arg5
  let main_v83 : FVec F S32x4 .f32 := shapeCast S32x4 main_v82 shapeCasts_S32x1x4x1_S32x4
  let main_v84 : FVec F S129024x6x32 .f32 := (fun l r => Host.dotGeneral dot_S129024x4x6_S32x4_S129024x6x32_1_1_02_0_n_n none l r) main_v81 main_v83
  let main_v85 : FVec F S129024x6x32 .f32 := addf main_v80 main_v84
  let main_v86 : FVec F S129024x4x6 .f32 := (extractStridedSlice S129024x4x6 ![0, 0, 4] · slices_S129024x4x10_S129024x4x6_0_0_4) main_v64
  let main_v87 : FVec F S32x1x4x1 .f32 := (extractStridedSlice S32x1x4x1 ![0, 0, 0, 4] · slices_S32x1x4x5_S32x1x4x1_0_0_0_4) main_arg5
  let main_v88 : FVec F S32x4 .f32 := shapeCast S32x4 main_v87 shapeCasts_S32x1x4x1_S32x4
  let main_v89 : FVec F S129024x6x32 .f32 := (fun l r => Host.dotGeneral dot_S129024x4x6_S32x4_S129024x6x32_1_1_02_0_n_n none l r) main_v86 main_v88
  let main_v90 : FVec F S129024x6x32 .f32 := addf main_v85 main_v89
  let main_v91 : FVec F S129024x32x6 .f32 := (transpose S129024x32x6 [0, 2, 1] · transposes_S129024x6x32_S129024x32x6_0_2_1) main_v90
  fn_part4 (F := F) main_arg0 main_arg6 main_arg7 main_arg8 main_arg9 main_arg10 main_arg15 main_arg16 main_arg19 main_arg20 main_arg23 main_arg24 main_v63 main_v91

def fn_part2 {F : FTy → Type} [FloatOps F] (main_arg0 : FVec F S129024x40 .f32) (main_arg5 : FVec F S32x1x4x5 .f32) (main_arg6 : FVec F S32 .f32) (main_arg7 : FVec F S32x1x4x3 .f32) (main_arg8 : FVec F S32 .f32) (main_arg9 : FVec F S32x1x4x1 .f32) (main_arg10 : FVec F S32 .f32) (main_arg15 : FVec F S192x64 .f32) (main_arg16 : FVec F S64 .f32) (main_arg19 : FVec F S256x64 .f32) (main_arg20 : FVec F S64 .f32) (main_arg23 : FVec F S320x64 .f32) (main_arg24 : FVec F S64 .f32) (main_v46 : FVec F S1024x126x64 .f32) : IVec S_ 1 :=
  let main_v47 : FVec F S1024x126x64 .f32 := Host.tanh main_v46
  let main_v48 : FVec F S1024x64x126 .f32 := (transpose S1024x64x126 [0, 2, 1] · transposes_S1024x126x64_S1024x64x126_0_2_1) main_v47
  let main_v49 : FVec F S1024x126x126 .f32 := (fun l r => Host.dotGeneral dot_S1024x126x64_S1024x64x126_S1024x126x126_2_1_1_2_0_0 none l r) main_v47 main_v48
  let main_v50 : IVec S126x126 32 := iotaInDim S126x126 32 0
  let main_v51 : IVec S126x126 32 := iotaInDim S126x126 32 1
  let main_c : IVec S_ 32 := constantI S_ 32 0#32
  let main_v52 : IVec S126x126 32 := broadcastInDim S126x126 ![] bcast_S_S126x126 main_c
  let main_v53 : IVec S126x126 32 := addi main_v50 main_v52
  let main_v54 : IVec S126x126 1 := cmpi .eq main_v53 main_v51
  let main_v55 : IVec S1x1x126x126 1 := broadcastInDim S1x1x126x126 ![2, 3] bcast_S126x126_S1x1x126x126_2_3 main_v54
  let main_v56 : FVec F S1024x126x126x1 .f32 := broadcastInDim S1024x126x126x1 ![0, 1, 2] bcast_S1024x126x126_S1024x126x126x1_0_1_2 main_v49
  let main_v57 : FVec F S1024x126x1x126 .f32 := broadcastInDim S1024x126x1x126 ![0, 1, 3] bcast_S1024x126x126_S1024x126x1x126_0_1_3 main_v49
  let main_v58 : FVec F S1024x126x126x126 .f32 := broadcastInDim S1024x126x126x126 ![0, 1, 2, 3] bcast_S1024x126x126x1_S1024x126x126x126_0_1_2_3 main_v56
  let main_v59 : FVec F S1024x126x126x126 .f32 := broadcastInDim S1024x126x126x126 ![0, 1, 2, 3] bcast_S1024x126x1x126_S1024x126x126x126_0_1_2_3 main_v57
  let main_v60 : IVec S1024x126x126x126 1 := cmpf .une main_v58 main_v59
  let main_v61 : IVec S1024x126x126x126 1 := broadcastInDim S1024x126x126x126 ![0, 1, 2, 3] bcast_S1x1x126x126_S1024x126x126x126_0_1_2_3 main_v55
  let main_v62 : IVec S1024x126x126x126 1 := ori main_v60 main_v61
  let main_c_0 : IVec S_ 1 := constantI S_ 1 1#1
  let main_v63 : IVec S_ 1 := (fun x v => Host.reduce IntOp.andi x v reducesTo_S1024x126x126x126_S_d0_1_2_3 h_S_) main_v62 main_c_0
  let main_v64 : FVec F S129024x4x10 .f32 := shapeCast S129024x4x10 main_arg0 shapeCasts_S129024x40_S129024x4x10
  let main_cst_1 : FVec F S_ .f32 := constant S_ .f32 0x00000000#32
  let main_v65 : FVec F S129024x6x32 .f32 := broadcastInDim S129024x6x32 ![] bcast_S_S129024x6x32 main_cst_1
  let main_v66 : FVec F S129024x4x6 .f32 := (extractStridedSlice S129024x4x6 ![0, 0, 0] · slices_S129024x4x10_S129024x4x6_0_0_0) main_v64
  let main_v67 : FVec F S32x1x4x1 .f32 := (extractStridedSlice S32x1x4x1 ![0, 0, 0, 0] · slices_S32x1x4x5_S32x1x4x1_0_0_0_0) main_arg5
  fn_part3 (F := F) main_arg0 main_arg5 main_arg6 main_arg7 main_arg8 main_arg9 main_arg10 main_arg15 main_arg16 main_arg19 main_arg20 main_arg23 main_arg24 main_v63 main_v64 main_v65 main_v66 main_v67

def fn_part1 {F : FTy → Type} [FloatOps F] (main_arg0 : FVec F S129024x40 .f32) (main_arg3 : FVec F S32x1x4x7 .f32) (main_arg4 : FVec F S32 .f32) (main_arg5 : FVec F S32x1x4x5 .f32) (main_arg6 : FVec F S32 .f32) (main_arg7 : FVec F S32x1x4x3 .f32) (main_arg8 : FVec F S32 .f32) (main_arg9 : FVec F S32x1x4x1 .f32) (main_arg10 : FVec F S32 .f32) (main_arg11 : FVec F S128x64 .f32) (main_arg12 : FVec F S64 .f32) (main_arg15 : FVec F S192x64 .f32) (main_arg16 : FVec F S64 .f32) (main_arg19 : FVec F S256x64 .f32) (main_arg20 : FVec F S64 .f32) (main_arg23 : FVec F S320x64 .f32) (main_arg24 : FVec F S64 .f32) (main_v0 : FVec F S129024x4x10 .f32) (main_v21 : FVec F S129024x4x32 .f32) (main_v22 : FVec F S129024x4x4 .f32) : IVec S_ 1 :=
  let main_v23 : FVec F S32x1x4x1 .f32 := (extractStridedSlice S32x1x4x1 ![0, 0, 0, 4] · slices_S32x1x4x7_S32x1x4x1_0_0_0_4) main_arg3
  let main_v24 : FVec F S32x4 .f32 := shapeCast S32x4 main_v23 shapeCasts_S32x1x4x1_S32x4
  let main_v25 : FVec F S129024x4x32 .f32 := (fun l r => Host.dotGeneral dot_S129024x4x4_S32x4_S129024x4x32_1_1_02_0_n_n none l r) main_v22 main_v24
  let main_v26 : FVec F S129024x4x32 .f32 := addf main_v21 main_v25
  let main_v27 : FVec F S129024x4x4 .f32 := (extractStridedSlice S129024x4x4 ![0, 0, 5] · slices_S129024x4x10_S129024x4x4_0_0_5) main_v0
  let main_v28 : FVec F S32x1x4x1 .f32 := (extractStridedSlice S32x1x4x1 ![0, 0, 0, 5] · slices_S32x1x4x7_S32x1x4x1_0_0_0_5) main_arg3
  let main_v29 : FVec F S32x4 .f32 := shapeCast S32x4 main_v28 shapeCasts_S32x1x4x1_S32x4
  let main_v30 : FVec F S129024x4x32 .f32 := (fun l r => Host.dotGeneral dot_S129024x4x4_S32x4_S129024x4x32_1_1_02_0_n_n none l r) main_v27 main_v29
  let main_v31 : FVec F S129024x4x32 .f32 := addf main_v26 main_v30
  let main_v32 : FVec F S129024x4x4 .f32 := (extractStridedSlice S129024x4x4 ![0, 0, 6] · slices_S129024x4x10_S129024x4x4_0_0_6) main_v0
  let main_v33 : FVec F S32x1x4x1 .f32 := (extractStridedSlice S32x1x4x1 ![0, 0, 0, 6] · slices_S32x1x4x7_S32x1x4x1_0_0_0_6) main_arg3
  let main_v34 : FVec F S32x4 .f32 := shapeCast S32x4 main_v33 shapeCasts_S32x1x4x1_S32x4
  let main_v35 : FVec F S129024x4x32 .f32 := (fun l r => Host.dotGeneral dot_S129024x4x4_S32x4_S129024x4x32_1_1_02_0_n_n none l r) main_v32 main_v34
  let main_v36 : FVec F S129024x4x32 .f32 := addf main_v31 main_v35
  let main_v37 : FVec F S129024x32x4 .f32 := (transpose S129024x32x4 [0, 2, 1] · transposes_S129024x4x32_S129024x32x4_0_2_1) main_v36
  let main_v38 : FVec F S1x32x1 .f32 := broadcastInDim S1x32x1 ![1] bcast_S32_S1x32x1_1 main_arg4
  let main_v39 : FVec F S129024x32x4 .f32 := broadcastInDim S129024x32x4 ![0, 1, 2] bcast_S1x32x1_S129024x32x4_0_1_2 main_v38
  let main_v40 : FVec F S129024x32x4 .f32 := addf main_v37 main_v39
  let main_v41 : FVec F S129024x32x4 .f32 := fn_relu (F := F) main_v40
  let main_v42 : FVec F S1024x126x128 .f32 := shapeCast S1024x126x128 main_v41 shapeCasts_S129024x32x4_S1024x126x128
  let main_v43 : FVec F S1024x126x64 .f32 := (fun l r => Host.dotGeneral dot_S1024x126x128_S128x64_S1024x126x64_2_0_01_1_n_n none l r) main_v42 main_arg11
  let main_v44 : FVec F S1x1x64 .f32 := broadcastInDim S1x1x64 ![2] bcast_S64_S1x1x64_2 main_arg12
  let main_v45 : FVec F S1024x126x64 .f32 := broadcastInDim S1024x126x64 ![0, 1, 2] bcast_S1x1x64_S1024x126x64_0_1_2 main_v44
  let main_v46 : FVec F S1024x126x64 .f32 := addf main_v43 main_v45
  fn_part2 (F := F) main_arg0 main_arg5 main_arg6 main_arg7 main_arg8 main_arg9 main_arg10 main_arg15 main_arg16 main_arg19 main_arg20 main_arg23 main_arg24 main_v46

def fn {F : FTy → Type} [FloatOps F] (main_arg0 : FVec F S129024x40 .f32) (main_arg1 : IVec S2x129024 32) (main_arg2 : IVec S129024 32) (main_arg3 : FVec F S32x1x4x7 .f32) (main_arg4 : FVec F S32 .f32) (main_arg5 : FVec F S32x1x4x5 .f32) (main_arg6 : FVec F S32 .f32) (main_arg7 : FVec F S32x1x4x3 .f32) (main_arg8 : FVec F S32 .f32) (main_arg9 : FVec F S32x1x4x1 .f32) (main_arg10 : FVec F S32 .f32) (main_arg11 : FVec F S128x64 .f32) (main_arg12 : FVec F S64 .f32) (main_arg13 : FVec F S128x32 .f32) (main_arg14 : FVec F S32 .f32) (main_arg15 : FVec F S192x64 .f32) (main_arg16 : FVec F S64 .f32) (main_arg17 : FVec F S192x32 .f32) (main_arg18 : FVec F S32 .f32) (main_arg19 : FVec F S256x64 .f32) (main_arg20 : FVec F S64 .f32) (main_arg21 : FVec F S256x32 .f32) (main_arg22 : FVec F S32 .f32) (main_arg23 : FVec F S320x64 .f32) (main_arg24 : FVec F S64 .f32) (main_arg25 : FVec F S320x32 .f32) (main_arg26 : FVec F S32 .f32) (main_arg27 : FVec F S16128x3 .f32) (main_arg28 : FVec F S3 .f32) : IVec S_ 1 :=
  let main_v0 : FVec F S129024x4x10 .f32 := shapeCast S129024x4x10 main_arg0 shapeCasts_S129024x40_S129024x4x10
  let main_cst : FVec F S_ .f32 := constant S_ .f32 0x00000000#32
  let main_v1 : FVec F S129024x4x32 .f32 := broadcastInDim S129024x4x32 ![] bcast_S_S129024x4x32 main_cst
  let main_v2 : FVec F S129024x4x4 .f32 := (extractStridedSlice S129024x4x4 ![0, 0, 0] · slices_S129024x4x10_S129024x4x4_0_0_0) main_v0
  let main_v3 : FVec F S32x1x4x1 .f32 := (extractStridedSlice S32x1x4x1 ![0, 0, 0, 0] · slices_S32x1x4x7_S32x1x4x1_0_0_0_0) main_arg3
  let main_v4 : FVec F S32x4 .f32 := shapeCast S32x4 main_v3 shapeCasts_S32x1x4x1_S32x4
  let main_v5 : FVec F S129024x4x32 .f32 := (fun l r => Host.dotGeneral dot_S129024x4x4_S32x4_S129024x4x32_1_1_02_0_n_n none l r) main_v2 main_v4
  let main_v6 : FVec F S129024x4x32 .f32 := addf main_v1 main_v5
  let main_v7 : FVec F S129024x4x4 .f32 := (extractStridedSlice S129024x4x4 ![0, 0, 1] · slices_S129024x4x10_S129024x4x4_0_0_1) main_v0
  let main_v8 : FVec F S32x1x4x1 .f32 := (extractStridedSlice S32x1x4x1 ![0, 0, 0, 1] · slices_S32x1x4x7_S32x1x4x1_0_0_0_1) main_arg3
  let main_v9 : FVec F S32x4 .f32 := shapeCast S32x4 main_v8 shapeCasts_S32x1x4x1_S32x4
  let main_v10 : FVec F S129024x4x32 .f32 := (fun l r => Host.dotGeneral dot_S129024x4x4_S32x4_S129024x4x32_1_1_02_0_n_n none l r) main_v7 main_v9
  let main_v11 : FVec F S129024x4x32 .f32 := addf main_v6 main_v10
  let main_v12 : FVec F S129024x4x4 .f32 := (extractStridedSlice S129024x4x4 ![0, 0, 2] · slices_S129024x4x10_S129024x4x4_0_0_2) main_v0
  let main_v13 : FVec F S32x1x4x1 .f32 := (extractStridedSlice S32x1x4x1 ![0, 0, 0, 2] · slices_S32x1x4x7_S32x1x4x1_0_0_0_2) main_arg3
  let main_v14 : FVec F S32x4 .f32 := shapeCast S32x4 main_v13 shapeCasts_S32x1x4x1_S32x4
  let main_v15 : FVec F S129024x4x32 .f32 := (fun l r => Host.dotGeneral dot_S129024x4x4_S32x4_S129024x4x32_1_1_02_0_n_n none l r) main_v12 main_v14
  let main_v16 : FVec F S129024x4x32 .f32 := addf main_v11 main_v15
  let main_v17 : FVec F S129024x4x4 .f32 := (extractStridedSlice S129024x4x4 ![0, 0, 3] · slices_S129024x4x10_S129024x4x4_0_0_3) main_v0
  let main_v18 : FVec F S32x1x4x1 .f32 := (extractStridedSlice S32x1x4x1 ![0, 0, 0, 3] · slices_S32x1x4x7_S32x1x4x1_0_0_0_3) main_arg3
  let main_v19 : FVec F S32x4 .f32 := shapeCast S32x4 main_v18 shapeCasts_S32x1x4x1_S32x4
  let main_v20 : FVec F S129024x4x32 .f32 := (fun l r => Host.dotGeneral dot_S129024x4x4_S32x4_S129024x4x32_1_1_02_0_n_n none l r) main_v17 main_v19
  let main_v21 : FVec F S129024x4x32 .f32 := addf main_v16 main_v20
  let main_v22 : FVec F S129024x4x4 .f32 := (extractStridedSlice S129024x4x4 ![0, 0, 4] · slices_S129024x4x10_S129024x4x4_0_0_4) main_v0
  fn_part1 (F := F) main_arg0 main_arg3 main_arg4 main_arg5 main_arg6 main_arg7 main_arg8 main_arg9 main_arg10 main_arg11 main_arg12 main_arg15 main_arg16 main_arg19 main_arg20 main_arg23 main_arg24 main_v0 main_v21 main_v22
-- ==== Kernel.lean ====
abbrev S129024x40 : Shape := ⟨2, ![129024, 40]⟩
abbrev S2x129024 : Shape := ⟨2, ![2, 129024]⟩
abbrev S129024 : Shape := ⟨1, ![129024]⟩
abbrev S32x1x4x7 : Shape := ⟨4, ![32, 1, 4, 7]⟩
abbrev S32 : Shape := ⟨1, ![32]⟩
abbrev S32x1x4x5 : Shape := ⟨4, ![32, 1, 4, 5]⟩
abbrev S32x1x4x3 : Shape := ⟨4, ![32, 1, 4, 3]⟩
abbrev S32x1x4x1 : Shape := ⟨4, ![32, 1, 4, 1]⟩
abbrev S128x64 : Shape := ⟨2, ![128, 64]⟩
abbrev S64 : Shape := ⟨1, ![64]⟩
abbrev S128x32 : Shape := ⟨2, ![128, 32]⟩
abbrev S192x64 : Shape := ⟨2, ![192, 64]⟩
abbrev S192x32 : Shape := ⟨2, ![192, 32]⟩
abbrev S256x64 : Shape := ⟨2, ![256, 64]⟩
abbrev S256x32 : Shape := ⟨2, ![256, 32]⟩
abbrev S320x64 : Shape := ⟨2, ![320, 64]⟩
abbrev S320x32 : Shape := ⟨2, ![320, 32]⟩
abbrev S16128x3 : Shape := ⟨2, ![16128, 3]⟩
abbrev S3 : Shape := ⟨1, ![3]⟩
abbrev S1024x126x40 : Shape := ⟨3, ![1024, 126, 40]⟩
abbrev S_ : Shape := ⟨0, ![]⟩
abbrev S4x10x32x4 : Shape := ⟨4, ![4, 10, 32, 4]⟩
abbrev S32x4x7 : Shape := ⟨3, ![32, 4, 7]⟩
abbrev S4x7x32 : Shape := ⟨3, ![4, 7, 32]⟩
abbrev S1 : Shape := ⟨1, ![1]⟩
abbrev S2 : Shape := ⟨1, ![2]⟩
abbrev S40x128 : Shape := ⟨2, ![40, 128]⟩
abbrev S32x4 : Shape := ⟨2, ![32, 4]⟩
abbrev S128 : Shape := ⟨1, ![128]⟩
abbrev S4x10x32x6 : Shape := ⟨4, ![4, 10, 32, 6]⟩
abbrev S32x4x5 : Shape := ⟨3, ![32, 4, 5]⟩
abbrev S4x5x32 : Shape := ⟨3, ![4, 5, 32]⟩
abbrev S40x192 : Shape := ⟨2, ![40, 192]⟩
abbrev S32x6 : Shape := ⟨2, ![32, 6]⟩
abbrev S192 : Shape := ⟨1, ![192]⟩
abbrev S4x10x32x8 : Shape := ⟨4, ![4, 10, 32, 8]⟩
abbrev S32x4x3 : Shape := ⟨3, ![32, 4, 3]⟩
abbrev S4x3x32 : Shape := ⟨3, ![4, 3, 32]⟩
abbrev S40x256 : Shape := ⟨2, ![40, 256]⟩
abbrev S32x8 : Shape := ⟨2, ![32, 8]⟩
abbrev S256 : Shape := ⟨1, ![256]⟩
abbrev S4x10x32x10 : Shape := ⟨4, ![4, 10, 32, 10]⟩
abbrev S32x4x1 : Shape := ⟨3, ![32, 4, 1]⟩
abbrev S4x1x32 : Shape := ⟨3, ![4, 1, 32]⟩
abbrev S40x320 : Shape := ⟨2, ![40, 320]⟩
abbrev S32x10 : Shape := ⟨2, ![32, 10]⟩
abbrev S320 : Shape := ⟨1, ![320]⟩
abbrev S40x64 : Shape := ⟨2, ![40, 64]⟩
abbrev S40x960 : Shape := ⟨2, ![40, 960]⟩
abbrev S960 : Shape := ⟨1, ![960]⟩
abbrev S1x960 : Shape := ⟨2, ![1, 960]⟩
abbrev S504x32x3 : Shape := ⟨3, ![504, 32, 3]⟩
abbrev S3x504x32 : Shape := ⟨3, ![3, 504, 32]⟩
abbrev S1x64 : Shape := ⟨2, ![1, 64]⟩
abbrev S1x32 : Shape := ⟨2, ![1, 32]⟩
abbrev S1x3 : Shape := ⟨2, ![1, 3]⟩
abbrev S1024x1x3 : Shape := ⟨3, ![1024, 1, 3]⟩
abbrev S2x126x40 : Shape := ⟨3, ![2, 126, 40]⟩
abbrev S2x1x3 : Shape := ⟨3, ![2, 1, 3]⟩
abbrev S126x126 : Shape := ⟨2, ![126, 126]⟩
abbrev S1x126x40 : Shape := ⟨3, ![1, 126, 40]⟩
abbrev S126x40 : Shape := ⟨2, ![126, 40]⟩
abbrev S126x960 : Shape := ⟨2, ![126, 960]⟩
abbrev S126x128 : Shape := ⟨2, ![126, 128]⟩
abbrev S126x64 : Shape := ⟨2, ![126, 64]⟩
abbrev S126x32 : Shape := ⟨2, ![126, 32]⟩
abbrev S126x192 : Shape := ⟨2, ![126, 192]⟩
abbrev S126x256 : Shape := ⟨2, ![126, 256]⟩
abbrev S126x320 : Shape := ⟨2, ![126, 320]⟩
abbrev S126 : Shape := ⟨1, ![126]⟩
abbrev S1x126 : Shape := ⟨2, ![1, 126]⟩
abbrev S126x1 : Shape := ⟨2, ![126, 1]⟩
abbrev S1x126x32 : Shape := ⟨3, ![1, 126, 32]⟩
abbrev S1x1 : Shape := ⟨2, ![1, 1]⟩
abbrev S1x1x3 : Shape := ⟨3, ![1, 1, 3]⟩

abbrev nBuf : Space → Nat
  | .hbm => 246
  | .vmem => 26
  | .smem => 0
  | _ => 0

abbrev hbmTy0_0 (i : Nat) : BufTy := match i % 128 with
  | 0 => ⟨S129024x40, .f32⟩
  | 1 => ⟨S2x129024, .i32⟩
  | 2 => ⟨S129024, .i32⟩
  | 3 => ⟨S32x1x4x7, .f32⟩
  | 4 => ⟨S32, .f32⟩
  | 5 => ⟨S32x1x4x5, .f32⟩
  | 6 => ⟨S32, .f32⟩
  | 7 => ⟨S32x1x4x3, .f32⟩
  | 8 => ⟨S32, .f32⟩
  | 9 => ⟨S32x1x4x1, .f32⟩
  | 10 => ⟨S32, .f32⟩
  | 11 => ⟨S128x64, .f32⟩
  | 12 => ⟨S64, .f32⟩
  | 13 => ⟨S128x32, .f32⟩
  | 14 => ⟨S32, .f32⟩
  | 15 => ⟨S192x64, .f32⟩
  | 16 => ⟨S64, .f32⟩
  | 17 => ⟨S192x32, .f32⟩
  | 18 => ⟨S32, .f32⟩
  | 19 => ⟨S256x64, .f32⟩
  | 20 => ⟨S64, .f32⟩
  | 21 => ⟨S256x32, .f32⟩
  | 22 => ⟨S32, .f32⟩
  | 23 => ⟨S320x64, .f32⟩
  | 24 => ⟨S64, .f32⟩
  | 25 => ⟨S320x32, .f32⟩
  | 26 => ⟨S32, .f32⟩
  | 27 => ⟨S16128x3, .f32⟩
  | 28 => ⟨S3, .f32⟩
  | 29 => ⟨S1024x126x40, .f32⟩
  | 30 => ⟨S_, .f32⟩
  | 31 => ⟨S4x10x32x4, .f32⟩
  | 32 => ⟨S32x4x7, .f32⟩
  | 33 => ⟨S4x7x32, .f32⟩
  | 34 => ⟨S_, .i32⟩
  | 35 => ⟨S1, .i32⟩
  | 36 => ⟨S_, .i32⟩
  | 37 => ⟨S1, .i32⟩
  | 38 => ⟨S2, .i32⟩
  | 39 => ⟨S4x10x32x4, .f32⟩
  | 40 => ⟨S_, .i32⟩
  | 41 => ⟨S1, .i32⟩
  | 42 => ⟨S_, .i32⟩
  | 43 => ⟨S1, .i32⟩
  | 44 => ⟨S2, .i32⟩
  | 45 => ⟨S4x10x32x4, .f32⟩
  | 46 => ⟨S_, .i32⟩
  | 47 => ⟨S1, .i32⟩
  | 48 => ⟨S_, .i32⟩
  | 49 => ⟨S1, .i32⟩
  | 50 => ⟨S2, .i32⟩
  | 51 => ⟨S4x10x32x4, .f32⟩
  | 52 => ⟨S_, .i32⟩
  | 53 => ⟨S1, .i32⟩
  | 54 => ⟨S_, .i32⟩
  | 55 => ⟨S1, .i32⟩
  | 56 => ⟨S2, .i32⟩
  | 57 => ⟨S4x10x32x4, .f32⟩
  | 58 => ⟨S40x128, .f32⟩
  | 59 => ⟨S32x4, .f32⟩
  | 60 => ⟨S128, .f32⟩
  | 61 => ⟨S_, .f32⟩
  | 62 => ⟨S4x10x32x6, .f32⟩
  | 63 => ⟨S32x4x5, .f32⟩
  | 64 => ⟨S4x5x32, .f32⟩
  | 65 => ⟨S_, .i32⟩
  | 66 => ⟨S1, .i32⟩
  | 67 => ⟨S_, .i32⟩
  | 68 => ⟨S1, .i32⟩
  | 69 => ⟨S2, .i32⟩
  | 70 => ⟨S4x10x32x6, .f32⟩
  | 71 => ⟨S_, .i32⟩
  | 72 => ⟨S1, .i32⟩
  | 73 => ⟨S_, .i32⟩
  | 74 => ⟨S1, .i32⟩
  | 75 => ⟨S2, .i32⟩
  | 76 => ⟨S4x10x32x6, .f32⟩
  | 77 => ⟨S_, .i32⟩
  | 78 => ⟨S1, .i32⟩
  | 79 => ⟨S_, .i32⟩
  | 80 => ⟨S1, .i32⟩
  | 81 => ⟨S2, .i32⟩
  | 82 => ⟨S4x10x32x6, .f32⟩
  | 83 => ⟨S_, .i32⟩
  | 84 => ⟨S1, .i32⟩
  | 85 => ⟨S_, .i32⟩
  | 86 => ⟨S1, .i32⟩
  | 87 => ⟨S2, .i32⟩
  | 88 => ⟨S4x10x32x6, .f32⟩
  | 89 => ⟨S_, .i32⟩
  | 90 => ⟨S1, .i32⟩
  | 91 => ⟨S_, .i32⟩
  | 92 => ⟨S1, .i32⟩
  | 93 => ⟨S2, .i32⟩
  | 94 => ⟨S4x10x32x6, .f32⟩
  | 95 => ⟨S_, .i32⟩
  | 96 => ⟨S1, .i32⟩
  | 97 => ⟨S_, .i32⟩
  | 98 => ⟨S1, .i32⟩
  | 99 => ⟨S2, .i32⟩
  | 100 => ⟨S4x10x32x6, .f32⟩
  | 101 => ⟨S40x192, .f32⟩
  | 102 => ⟨S32x6, .f32⟩
  | 103 => ⟨S192, .f32⟩
  | 104 => ⟨S_, .f32⟩
  | 105 => ⟨S4x10x32x8, .f32⟩
  | 106 => ⟨S32x4x3, .f32⟩
  | 107 => ⟨S4x3x32, .f32⟩
  | 108 => ⟨S_, .i32⟩
  | 109 => ⟨S1, .i32⟩
  | 110 => ⟨S_, .i32⟩
  | 111 => ⟨S1, .i32⟩
  | 112 => ⟨S2, .i32⟩
  | 113 => ⟨S4x10x32x8, .f32⟩
  | 114 => ⟨S_, .i32⟩
  | 115 => ⟨S1, .i32⟩
  | 116 => ⟨S_, .i32⟩
  | 117 => ⟨S1, .i32⟩
  | 118 => ⟨S2, .i32⟩
  | 119 => ⟨S4x10x32x8, .f32⟩
  | 120 => ⟨S_, .i32⟩
  | 121 => ⟨S1, .i32⟩
  | 122 => ⟨S_, .i32⟩
  | 123 => ⟨S1, .i32⟩
  | 124 => ⟨S2, .i32⟩
  | 125 => ⟨S4x10x32x8, .f32⟩
  | 126 => ⟨S_, .i32⟩
  | 127 => ⟨S1, .i32⟩
  | _ => ⟨S129024x40, .f32⟩

abbrev hbmTy0_1 (i : Nat) : BufTy := match i % 128 with
  | 0 => ⟨S_, .i32⟩
  | 1 => ⟨S1, .i32⟩
  | 2 => ⟨S2, .i32⟩
  | 3 => ⟨S4x10x32x8, .f32⟩
  | 4 => ⟨S_, .i32⟩
  | 5 => ⟨S1, .i32⟩
  | 6 => ⟨S_, .i32⟩
  | 7 => ⟨S1, .i32⟩
  | 8 => ⟨S2, .i32⟩
  | 9 => ⟨S4x10x32x8, .f32⟩
  | 10 => ⟨S_, .i32⟩
  | 11 => ⟨S1, .i32⟩
  | 12 => ⟨S_, .i32⟩
  | 13 => ⟨S1, .i32⟩
  | 14 => ⟨S2, .i32⟩
  | 15 => ⟨S4x10x32x8, .f32⟩
  | 16 => ⟨S_, .i32⟩
  | 17 => ⟨S1, .i32⟩
  | 18 => ⟨S_, .i32⟩
  | 19 => ⟨S1, .i32⟩
  | 20 => ⟨S2, .i32⟩
  | 21 => ⟨S4x10x32x8, .f32⟩
  | 22 => ⟨S_, .i32⟩
  | 23 => ⟨S1, .i32⟩
  | 24 => ⟨S_, .i32⟩
  | 25 => ⟨S1, .i32⟩
  | 26 => ⟨S2, .i32⟩
  | 27 => ⟨S4x10x32x8, .f32⟩
  | 28 => ⟨S40x256, .f32⟩
  | 29 => ⟨S32x8, .f32⟩
  | 30 => ⟨S256, .f32⟩
  | 31 => ⟨S_, .f32⟩
  | 32 => ⟨S4x10x32x10, .f32⟩
  | 33 => ⟨S32x4x1, .f32⟩
  | 34 => ⟨S4x1x32, .f32⟩
  | 35 => ⟨S_, .i32⟩
  | 36 => ⟨S1, .i32⟩
  | 37 => ⟨S_, .i32⟩
  | 38 => ⟨S1, .i32⟩
  | 39 => ⟨S2, .i32⟩
  | 40 => ⟨S4x10x32x10, .f32⟩
  | 41 => ⟨S_, .i32⟩
  | 42 => ⟨S1, .i32⟩
  | 43 => ⟨S_, .i32⟩
  | 44 => ⟨S1, .i32⟩
  | 45 => ⟨S2, .i32⟩
  | 46 => ⟨S4x10x32x10, .f32⟩
  | 47 => ⟨S_, .i32⟩
  | 48 => ⟨S1, .i32⟩
  | 49 => ⟨S_, .i32⟩
  | 50 => ⟨S1, .i32⟩
  | 51 => ⟨S2, .i32⟩
  | 52 => ⟨S4x10x32x10, .f32⟩
  | 53 => ⟨S_, .i32⟩
  | 54 => ⟨S1, .i32⟩
  | 55 => ⟨S_, .i32⟩
  | 56 => ⟨S1, .i32⟩
  | 57 => ⟨S2, .i32⟩
  | 58 => ⟨S4x10x32x10, .f32⟩
  | 59 => ⟨S_, .i32⟩
  | 60 => ⟨S1, .i32⟩
  | 61 => ⟨S_, .i32⟩
  | 62 => ⟨S1, .i32⟩
  | 63 => ⟨S2, .i32⟩
  | 64 => ⟨S4x10x32x10, .f32⟩
  | 65 => ⟨S_, .i32⟩
  | 66 => ⟨S1, .i32⟩
  | 67 => ⟨S_, .i32⟩
  | 68 => ⟨S1, .i32⟩
  | 69 => ⟨S2, .i32⟩
  | 70 => ⟨S4x10x32x10, .f32⟩
  | 71 => ⟨S_, .i32⟩
  | 72 => ⟨S1, .i32⟩
  | 73 => ⟨S_, .i32⟩
  | 74 => ⟨S1, .i32⟩
  | 75 => ⟨S2, .i32⟩
  | 76 => ⟨S4x10x32x10, .f32⟩
  | 77 => ⟨S_, .i32⟩
  | 78 => ⟨S1, .i32⟩
  | 79 => ⟨S_, .i32⟩
  | 80 => ⟨S1, .i32⟩
  | 81 => ⟨S2, .i32⟩
  | 82 => ⟨S4x10x32x10, .f32⟩
  | 83 => ⟨S_, .i32⟩
  | 84 => ⟨S1, .i32⟩
  | 85 => ⟨S_, .i32⟩
  | 86 => ⟨S1, .i32⟩
  | 87 => ⟨S2, .i32⟩
  | 88 => ⟨S4x10x32x10, .f32⟩
  | 89 => ⟨S_, .i32⟩
  | 90 => ⟨S1, .i32⟩
  | 91 => ⟨S_, .i32⟩
  | 92 => ⟨S1, .i32⟩
  | 93 => ⟨S2, .i32⟩
  | 94 => ⟨S4x10x32x10, .f32⟩
  | 95 => ⟨S40x320, .f32⟩
  | 96 => ⟨S32x10, .f32⟩
  | 97 => ⟨S320, .f32⟩
  | 98 => ⟨S_, .f32⟩
  | 99 => ⟨S40x64, .f32⟩
  | 100 => ⟨S_, .f32⟩
  | 101 => ⟨S64, .f32⟩
  | 102 => ⟨S40x960, .f32⟩
  | 103 => ⟨S960, .f32⟩
  | 104 => ⟨S1x960, .f32⟩
  | 105 => ⟨S504x32x3, .f32⟩
  | 106 => ⟨S3x504x32, .f32⟩
  | 107 => ⟨S1x64, .f32⟩
  | 108 => ⟨S1x32, .f32⟩
  | 109 => ⟨S1x64, .f32⟩
  | 110 => ⟨S1x32, .f32⟩
  | 111 => ⟨S1x64, .f32⟩
  | 112 => ⟨S1x32, .f32⟩
  | 113 => ⟨S1x64, .f32⟩
  | 114 => ⟨S1x32, .f32⟩
  | 115 => ⟨S1x3, .f32⟩
  | 116 => ⟨S1024x1x3, .f32⟩
  | 117 => ⟨S1024x1x3, .f32⟩
  | _ => ⟨S129024x40, .f32⟩

abbrev hbmTy (i : Nat) : BufTy := match i / 128 with
  | 0 => hbmTy0_0 i
  | 1 => hbmTy0_1 i
  | _ => ⟨S129024x40, .f32⟩

abbrev bufTy : (tb : Table) → Fin (tcTables nBuf tb) → BufTy
  | .hbm, ⟨i, _⟩ => hbmTy i
  | .local _ .vmem, ⟨0, _⟩ => ⟨S2x126x40, .f32⟩
  | .local _ .vmem, ⟨1, _⟩ => ⟨S2x126x40, .f32⟩
  | .local _ .vmem, ⟨2, _⟩ => ⟨S40x960, .f32⟩
  | .local _ .vmem, ⟨3, _⟩ => ⟨S1x960, .f32⟩
  | .local _ .vmem, ⟨4, _⟩ => ⟨S128x64, .f32⟩
  | .local _ .vmem, ⟨5, _⟩ => ⟨S1x64, .f32⟩
  | .local _ .vmem, ⟨6, _⟩ => ⟨S128x32, .f32⟩
  | .local _ .vmem, ⟨7, _⟩ => ⟨S1x32, .f32⟩
  | .local _ .vmem, ⟨8, _⟩ => ⟨S192x64, .f32⟩
  | .local _ .vmem, ⟨9, _⟩ => ⟨S1x64, .f32⟩
  | .local _ .vmem, ⟨10, _⟩ => ⟨S192x32, .f32⟩
  | .local _ .vmem, ⟨11, _⟩ => ⟨S1x32, .f32⟩
  | .local _ .vmem, ⟨12, _⟩ => ⟨S256x64, .f32⟩
  | .local _ .vmem, ⟨13, _⟩ => ⟨S1x64, .f32⟩
  | .local _ .vmem, ⟨14, _⟩ => ⟨S256x32, .f32⟩
  | .local _ .vmem, ⟨15, _⟩ => ⟨S1x32, .f32⟩
  | .local _ .vmem, ⟨16, _⟩ => ⟨S320x64, .f32⟩
  | .local _ .vmem, ⟨17, _⟩ => ⟨S1x64, .f32⟩
  | .local _ .vmem, ⟨18, _⟩ => ⟨S320x32, .f32⟩
  | .local _ .vmem, ⟨19, _⟩ => ⟨S1x32, .f32⟩
  | .local _ .vmem, ⟨20, _⟩ => ⟨S3x504x32, .f32⟩
  | .local _ .vmem, ⟨21, _⟩ => ⟨S1x3, .f32⟩
  | .local _ .vmem, ⟨22, _⟩ => ⟨S2x1x3, .f32⟩
  | .local _ .vmem, ⟨23, _⟩ => ⟨S2x1x3, .f32⟩
  | .local _ .vmem, ⟨24, _⟩ => ⟨S2x1x3, .f32⟩
  | .local _ .vmem, ⟨25, _⟩ => ⟨S2x1x3, .f32⟩
  | _, _ => ⟨S129024x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_c_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_c_1 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_c_3 : Ref sig .tc := ⟨.hbm, 46, rfl⟩
abbrev main_v12 : Ref sig .tc := ⟨.hbm, 47, rfl⟩
abbrev main_c_4 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_c_5 : Ref sig .tc := ⟨.hbm, 52, rfl⟩
abbrev main_v16 : Ref sig .tc := ⟨.hbm, 53, rfl⟩
abbrev main_c_6 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_7 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_8 : Ref sig .tc := ⟨.hbm, 65, rfl⟩
abbrev main_v26 : Ref sig .tc := ⟨.hbm, 66, rfl⟩
abbrev main_c_9 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_c_11 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_12 : Ref sig .tc := ⟨.hbm, 77, rfl⟩
abbrev main_v34 : Ref sig .tc := ⟨.hbm, 78, rfl⟩
abbrev main_c_13 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_14 : Ref sig .tc := ⟨.hbm, 83, rfl⟩
abbrev main_v38 : Ref sig .tc := ⟨.hbm, 84, rfl⟩
abbrev main_c_15 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_16 : Ref sig .tc := ⟨.hbm, 89, rfl⟩
abbrev main_v42 : Ref sig .tc := ⟨.hbm, 90, rfl⟩
abbrev main_c_17 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_18 : Ref sig .tc := ⟨.hbm, 95, rfl⟩
abbrev main_v46 : Ref sig .tc := ⟨.hbm, 96, rfl⟩
abbrev main_c_19 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_20 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_21 : Ref sig .tc := ⟨.hbm, 108, rfl⟩
abbrev main_v56 : Ref sig .tc := ⟨.hbm, 109, rfl⟩
abbrev main_c_22 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_c_23 : Ref sig .tc := ⟨.hbm, 114, rfl⟩
abbrev main_v60 : Ref sig .tc := ⟨.hbm, 115, rfl⟩
abbrev main_c_24 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_c_25 : Ref sig .tc := ⟨.hbm, 120, rfl⟩
abbrev main_v64 : Ref sig .tc := ⟨.hbm, 121, rfl⟩
abbrev main_c_26 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_c_27 : Ref sig .tc := ⟨.hbm, 126, rfl⟩
abbrev main_v68 : Ref sig .tc := ⟨.hbm, 127, rfl⟩
abbrev main_c_28 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_29 : Ref sig .tc := ⟨.hbm, 132, rfl⟩
abbrev main_v72 : Ref sig .tc := ⟨.hbm, 133, rfl⟩
abbrev main_c_30 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_c_31 : Ref sig .tc := ⟨.hbm, 138, rfl⟩
abbrev main_v76 : Ref sig .tc := ⟨.hbm, 139, rfl⟩
abbrev main_c_32 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_c_33 : Ref sig .tc := ⟨.hbm, 144, rfl⟩
abbrev main_v80 : Ref sig .tc := ⟨.hbm, 145, rfl⟩
abbrev main_c_34 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_c_35 : Ref sig .tc := ⟨.hbm, 150, rfl⟩
abbrev main_v84 : Ref sig .tc := ⟨.hbm, 151, rfl⟩
abbrev main_c_36 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_cst_37 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_c_38 : Ref sig .tc := ⟨.hbm, 163, rfl⟩
abbrev main_v94 : Ref sig .tc := ⟨.hbm, 164, rfl⟩
abbrev main_c_39 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_c_40 : Ref sig .tc := ⟨.hbm, 169, rfl⟩
abbrev main_v98 : Ref sig .tc := ⟨.hbm, 170, rfl⟩
abbrev main_c_41 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_c_42 : Ref sig .tc := ⟨.hbm, 175, rfl⟩
abbrev main_v102 : Ref sig .tc := ⟨.hbm, 176, rfl⟩
abbrev main_c_43 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_c_44 : Ref sig .tc := ⟨.hbm, 181, rfl⟩
abbrev main_v106 : Ref sig .tc := ⟨.hbm, 182, rfl⟩
abbrev main_c_45 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_c_46 : Ref sig .tc := ⟨.hbm, 187, rfl⟩
abbrev main_v110 : Ref sig .tc := ⟨.hbm, 188, rfl⟩
abbrev main_c_47 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_c_48 : Ref sig .tc := ⟨.hbm, 193, rfl⟩
abbrev main_v114 : Ref sig .tc := ⟨.hbm, 194, rfl⟩
abbrev main_c_49 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_c_50 : Ref sig .tc := ⟨.hbm, 199, rfl⟩
abbrev main_v118 : Ref sig .tc := ⟨.hbm, 200, rfl⟩
abbrev main_c_51 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_c_52 : Ref sig .tc := ⟨.hbm, 205, rfl⟩
abbrev main_v122 : Ref sig .tc := ⟨.hbm, 206, rfl⟩
abbrev main_c_53 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_c_54 : Ref sig .tc := ⟨.hbm, 211, rfl⟩
abbrev main_v126 : Ref sig .tc := ⟨.hbm, 212, rfl⟩
abbrev main_c_55 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_c_56 : Ref sig .tc := ⟨.hbm, 217, rfl⟩
abbrev main_v130 : Ref sig .tc := ⟨.hbm, 218, rfl⟩
abbrev main_c_57 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_cst_58 : Ref sig .tc := ⟨.hbm, 226, rfl⟩
abbrev main_v137 : Ref sig .tc := ⟨.hbm, 227, rfl⟩
abbrev main_cst_59 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153_0 : Ref sig .tc := ⟨.hbm, 244, rfl⟩
abbrev main_v153_1 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x126x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x960 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S320x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S320x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x504x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2x1x3 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x3 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S129024x40 : Shape := ⟨2, ![129024, 40]⟩
abbrev S2x129024 : Shape := ⟨2, ![2, 129024]⟩
abbrev S129024 : Shape := ⟨1, ![129024]⟩
abbrev S32x1x4x7 : Shape := ⟨4, ![32, 1, 4, 7]⟩
abbrev S32 : Shape := ⟨1, ![32]⟩
abbrev S32x1x4x5 : Shape := ⟨4, ![32, 1, 4, 5]⟩
abbrev S32x1x4x3 : Shape := ⟨4, ![32, 1, 4, 3]⟩
abbrev S32x1x4x1 : Shape := ⟨4, ![32, 1, 4, 1]⟩
abbrev S128x64 : Shape := ⟨2, ![128, 64]⟩
abbrev S64 : Shape := ⟨1, ![64]⟩
abbrev S128x32 : Shape := ⟨2, ![128, 32]⟩
abbrev S192x64 : Shape := ⟨2, ![192, 64]⟩
abbrev S192x32 : Shape := ⟨2, ![192, 32]⟩
abbrev S256x64 : Shape := ⟨2, ![256, 64]⟩
abbrev S256x32 : Shape := ⟨2, ![256, 32]⟩
abbrev S320x64 : Shape := ⟨2, ![320, 64]⟩
abbrev S320x32 : Shape := ⟨2, ![320, 32]⟩
abbrev S16128x3 : Shape := ⟨2, ![16128, 3]⟩
abbrev S3 : Shape := ⟨1, ![3]⟩
abbrev S129024x4x10 : Shape := ⟨3, ![129024, 4, 10]⟩
abbrev S_ : Shape := ⟨0, ![]⟩
abbrev S129024x4x32 : Shape := ⟨3, ![129024, 4, 32]⟩
abbrev S129024x4x4 : Shape := ⟨3, ![129024, 4, 4]⟩
abbrev S32x4 : Shape := ⟨2, ![32, 4]⟩
abbrev S129024x32x4 : Shape := ⟨3, ![129024, 32, 4]⟩
abbrev S1x32x1 : Shape := ⟨3, ![1, 32, 1]⟩
abbrev S1024x126x128 : Shape := ⟨3, ![1024, 126, 128]⟩
abbrev S1024x126x64 : Shape := ⟨3, ![1024, 126, 64]⟩
abbrev S1x1x64 : Shape := ⟨3, ![1, 1, 64]⟩
abbrev S1024x64x126 : Shape := ⟨3, ![1024, 64, 126]⟩
abbrev S1024x126x126 : Shape := ⟨3, ![1024, 126, 126]⟩
abbrev S1024x126 : Shape := ⟨2, ![1024, 126]⟩
abbrev S1024x126x1 : Shape := ⟨3, ![1024, 126, 1]⟩
abbrev S1024x126x20 : Shape := ⟨3, ![1024, 126, 20]⟩
abbrev S1024x126x20x1 : Shape := ⟨4, ![1024, 126, 20, 1]⟩
abbrev S126 : Shape := ⟨1, ![126]⟩
abbrev S1x1x1x126 : Shape := ⟨4, ![1, 1, 1, 126]⟩
abbrev S1024x126x20x126 : Shape := ⟨4, ![1024, 126, 20, 126]⟩
abbrev S1024x126x32 : Shape := ⟨3, ![1024, 126, 32]⟩
abbrev S126x126 : Shape := ⟨2, ![126, 126]⟩
abbrev S1x126x126 : Shape := ⟨3, ![1, 126, 126]⟩
abbrev S1024x1x126 : Shape := ⟨3, ![1024, 1, 126]⟩
abbrev S1x1x32 : Shape := ⟨3, ![1, 1, 32]⟩
abbrev S129024x6x32 : Shape := ⟨3, ![129024, 6, 32]⟩
abbrev S129024x4x6 : Shape := ⟨3, ![129024, 4, 6]⟩
abbrev S129024x32x6 : Shape := ⟨3, ![129024, 32, 6]⟩
abbrev S1024x126x192 : Shape := ⟨3, ![1024, 126, 192]⟩
abbrev S129024x8x32 : Shape := ⟨3, ![129024, 8, 32]⟩
abbrev S129024x4x8 : Shape := ⟨3, ![129024, 4, 8]⟩
abbrev S129024x32x8 : Shape := ⟨3, ![129024, 32, 8]⟩
abbrev S1024x126x256 : Shape := ⟨3, ![1024, 126, 256]⟩
abbrev S129024x10x32 : Shape := ⟨3, ![129024, 10, 32]⟩
abbrev S129024x32x10 : Shape := ⟨3, ![129024, 32, 10]⟩
abbrev S1024x126x320 : Shape := ⟨3, ![1024, 126, 320]⟩
abbrev S1024x504x32 : Shape := ⟨3, ![1024, 504, 32]⟩
abbrev S1024x16128 : Shape := ⟨2, ![1024, 16128]⟩
abbrev S1024x3 : Shape := ⟨2, ![1024, 3]⟩
abbrev S1x3 : Shape := ⟨2, ![1, 3]⟩
abbrev S1024 : Shape := ⟨1, ![1024]⟩
abbrev S1024x1 : Shape := ⟨2, ![1024, 1]⟩
abbrev S1024x1x3 : Shape := ⟨3, ![1024, 1, 3]⟩

abbrev nBuf : Space → Nat
  | .hbm => 449
  | .vmem => 0
  | .smem => 0
  | _ => 0

abbrev hbmTy0_0 (i : Nat) : BufTy := match i % 128 with
  | 0 => ⟨S129024x40, .f32⟩
  | 1 => ⟨S2x129024, .i32⟩
  | 2 => ⟨S129024, .i32⟩
  | 3 => ⟨S32x1x4x7, .f32⟩
  | 4 => ⟨S32, .f32⟩
  | 5 => ⟨S32x1x4x5, .f32⟩
  | 6 => ⟨S32, .f32⟩
  | 7 => ⟨S32x1x4x3, .f32⟩
  | 8 => ⟨S32, .f32⟩
  | 9 => ⟨S32x1x4x1, .f32⟩
  | 10 => ⟨S32, .f32⟩
  | 11 => ⟨S128x64, .f32⟩
  | 12 => ⟨S64, .f32⟩
  | 13 => ⟨S128x32, .f32⟩
  | 14 => ⟨S32, .f32⟩
  | 15 => ⟨S192x64, .f32⟩
  | 16 => ⟨S64, .f32⟩
  | 17 => ⟨S192x32, .f32⟩
  | 18 => ⟨S32, .f32⟩
  | 19 => ⟨S256x64, .f32⟩
  | 20 => ⟨S64, .f32⟩
  | 21 => ⟨S256x32, .f32⟩
  | 22 => ⟨S32, .f32⟩
  | 23 => ⟨S320x64, .f32⟩
  | 24 => ⟨S64, .f32⟩
  | 25 => ⟨S320x32, .f32⟩
  | 26 => ⟨S32, .f32⟩
  | 27 => ⟨S16128x3, .f32⟩
  | 28 => ⟨S3, .f32⟩
  | 29 => ⟨S129024x4x10, .f32⟩
  | 30 => ⟨S_, .f32⟩
  | 31 => ⟨S129024x4x32, .f32⟩
  | 32 => ⟨S129024x4x4, .f32⟩
  | 33 => ⟨S32x1x4x1, .f32⟩
  | 34 => ⟨S32x4, .f32⟩
  | 35 => ⟨S129024x4x32, .f32⟩
  | 36 => ⟨S129024x4x32, .f32⟩
  | 37 => ⟨S129024x4x4, .f32⟩
  | 38 => ⟨S32x1x4x1, .f32⟩
  | 39 => ⟨S32x4, .f32⟩
  | 40 => ⟨S129024x4x32, .f32⟩
  | 41 => ⟨S129024x4x32, .f32⟩
  | 42 => ⟨S129024x4x4, .f32⟩
  | 43 => ⟨S32x1x4x1, .f32⟩
  | 44 => ⟨S32x4, .f32⟩
  | 45 => ⟨S129024x4x32, .f32⟩
  | 46 => ⟨S129024x4x32, .f32⟩
  | 47 => ⟨S129024x4x4, .f32⟩
  | 48 => ⟨S32x1x4x1, .f32⟩
  | 49 => ⟨S32x4, .f32⟩
  | 50 => ⟨S129024x4x32, .f32⟩
  | 51 => ⟨S129024x4x32, .f32⟩
  | 52 => ⟨S129024x4x4, .f32⟩
  | 53 => ⟨S32x1x4x1, .f32⟩
  | 54 => ⟨S32x4, .f32⟩
  | 55 => ⟨S129024x4x32, .f32⟩
  | 56 => ⟨S129024x4x32, .f32⟩
  | 57 => ⟨S129024x4x4, .f32⟩
  | 58 => ⟨S32x1x4x1, .f32⟩
  | 59 => ⟨S32x4, .f32⟩
  | 60 => ⟨S129024x4x32, .f32⟩
  | 61 => ⟨S129024x4x32, .f32⟩
  | 62 => ⟨S129024x4x4, .f32⟩
  | 63 => ⟨S32x1x4x1, .f32⟩
  | 64 => ⟨S32x4, .f32⟩
  | 65 => ⟨S129024x4x32, .f32⟩
  | 66 => ⟨S129024x4x32, .f32⟩
  | 67 => ⟨S129024x32x4, .f32⟩
  | 68 => ⟨S1x32x1, .f32⟩
  | 69 => ⟨S129024x32x4, .f32⟩
  | 70 => ⟨S129024x32x4, .f32⟩
  | 71 => ⟨S_, .f32⟩
  | 72 => ⟨S129024x32x4, .f32⟩
  | 73 => ⟨S129024x32x4, .f32⟩
  | 74 => ⟨S1024x126x128, .f32⟩
  | 75 => ⟨S1024x126x64, .f32⟩
  | 76 => ⟨S1x1x64, .f32⟩
  | 77 => ⟨S1024x126x64, .f32⟩
  | 78 => ⟨S1024x126x64, .f32⟩
  | 79 => ⟨S1024x126x64, .f32⟩
  | 80 => ⟨S1024x64x126, .f32⟩
  | 81 => ⟨S1024x126x126, .f32⟩
  | 82 => ⟨S_, .f32⟩
  | 83 => ⟨S1024x126, .f32⟩
  | 84 => ⟨S_, .f32⟩
  | 85 => ⟨S1024x126, .f32⟩
  | 86 => ⟨S1024x126, .f32⟩
  | 87 => ⟨S1024x126x1, .f32⟩
  | 88 => ⟨S1024x126x126, .f32⟩
  | 89 => ⟨S1024x126x126, .f32⟩
  | 90 => ⟨S1024x126x126, .f32⟩
  | 91 => ⟨S_, .f32⟩
  | 92 => ⟨S1024x126, .f32⟩
  | 93 => ⟨S1024x126x1, .f32⟩
  | 94 => ⟨S1024x126x126, .f32⟩
  | 95 => ⟨S1024x126x126, .f32⟩
  | 96 => ⟨S1024x126x20, .f32⟩
  | 97 => ⟨S1024x126x20, .i32⟩
  | 98 => ⟨S1024x126x20x1, .i32⟩
  | 99 => ⟨S126, .i32⟩
  | 100 => ⟨S1x1x1x126, .i32⟩
  | 101 => ⟨S1024x126x20x126, .i32⟩
  | 102 => ⟨S1024x126x20x126, .i32⟩
  | 103 => ⟨S1024x126x20x126, .i1⟩
  | 104 => ⟨S_, .i1⟩
  | 105 => ⟨S1024x126x126, .i1⟩
  | 106 => ⟨S_, .f32⟩
  | 107 => ⟨S_, .f32⟩
  | 108 => ⟨S1024x126x126, .f32⟩
  | 109 => ⟨S1024x126x126, .f32⟩
  | 110 => ⟨S1024x126x32, .f32⟩
  | 111 => ⟨S126x126, .i32⟩
  | 112 => ⟨S126x126, .i32⟩
  | 113 => ⟨S_, .i32⟩
  | 114 => ⟨S126x126, .i32⟩
  | 115 => ⟨S126x126, .i32⟩
  | 116 => ⟨S126x126, .i1⟩
  | 117 => ⟨S1x126x126, .i1⟩
  | 118 => ⟨S_, .f32⟩
  | 119 => ⟨S_, .f32⟩
  | 120 => ⟨S1024x126x126, .i1⟩
  | 121 => ⟨S1024x126x126, .f32⟩
  | 122 => ⟨S1024x126x126, .f32⟩
  | 123 => ⟨S_, .f32⟩
  | 124 => ⟨S1024x126, .f32⟩
  | 125 => ⟨S_, .f32⟩
  | 126 => ⟨S1024x126, .f32⟩
  | 127 => ⟨S1024x126, .f32⟩
  | _ => ⟨S129024x40, .f32⟩

abbrev hbmTy0_1 (i : Nat) : BufTy := match i % 128 with
  | 0 => ⟨S_, .f32⟩
  | 1 => ⟨S1024x126, .f32⟩
  | 2 => ⟨S1024x126, .f32⟩
  | 3 => ⟨S1024x126x1, .f32⟩
  | 4 => ⟨S1024x126x126, .f32⟩
  | 5 => ⟨S1024x126x126, .f32⟩
  | 6 => ⟨S1024x1x126, .f32⟩
  | 7 => ⟨S1024x126x126, .f32⟩
  | 8 => ⟨S1024x126x126, .f32⟩
  | 9 => ⟨S1024x126x32, .f32⟩
  | 10 => ⟨S1x1x32, .f32⟩
  | 11 => ⟨S1024x126x32, .f32⟩
  | 12 => ⟨S1024x126x32, .f32⟩
  | 13 => ⟨S_, .f32⟩
  | 14 => ⟨S1024x126x32, .f32⟩
  | 15 => ⟨S1024x126x32, .f32⟩
  | 16 => ⟨S129024x4x10, .f32⟩
  | 17 => ⟨S_, .f32⟩
  | 18 => ⟨S129024x6x32, .f32⟩
  | 19 => ⟨S129024x4x6, .f32⟩
  | 20 => ⟨S32x1x4x1, .f32⟩
  | 21 => ⟨S32x4, .f32⟩
  | 22 => ⟨S129024x6x32, .f32⟩
  | 23 => ⟨S129024x6x32, .f32⟩
  | 24 => ⟨S129024x4x6, .f32⟩
  | 25 => ⟨S32x1x4x1, .f32⟩
  | 26 => ⟨S32x4, .f32⟩
  | 27 => ⟨S129024x6x32, .f32⟩
  | 28 => ⟨S129024x6x32, .f32⟩
  | 29 => ⟨S129024x4x6, .f32⟩
  | 30 => ⟨S32x1x4x1, .f32⟩
  | 31 => ⟨S32x4, .f32⟩
  | 32 => ⟨S129024x6x32, .f32⟩
  | 33 => ⟨S129024x6x32, .f32⟩
  | 34 => ⟨S129024x4x6, .f32⟩
  | 35 => ⟨S32x1x4x1, .f32⟩
  | 36 => ⟨S32x4, .f32⟩
  | 37 => ⟨S129024x6x32, .f32⟩
  | 38 => ⟨S129024x6x32, .f32⟩
  | 39 => ⟨S129024x4x6, .f32⟩
  | 40 => ⟨S32x1x4x1, .f32⟩
  | 41 => ⟨S32x4, .f32⟩
  | 42 => ⟨S129024x6x32, .f32⟩
  | 43 => ⟨S129024x6x32, .f32⟩
  | 44 => ⟨S129024x32x6, .f32⟩
  | 45 => ⟨S1x32x1, .f32⟩
  | 46 => ⟨S129024x32x6, .f32⟩
  | 47 => ⟨S129024x32x6, .f32⟩
  | 48 => ⟨S_, .f32⟩
  | 49 => ⟨S129024x32x6, .f32⟩
  | 50 => ⟨S129024x32x6, .f32⟩
  | 51 => ⟨S1024x126x192, .f32⟩
  | 52 => ⟨S1024x126x64, .f32⟩
  | 53 => ⟨S1x1x64, .f32⟩
  | 54 => ⟨S1024x126x64, .f32⟩
  | 55 => ⟨S1024x126x64, .f32⟩
  | 56 => ⟨S1024x126x64, .f32⟩
  | 57 => ⟨S1024x64x126, .f32⟩
  | 58 => ⟨S1024x126x126, .f32⟩
  | 59 => ⟨S_, .f32⟩
  | 60 => ⟨S1024x126, .f32⟩
  | 61 => ⟨S_, .f32⟩
  | 62 => ⟨S1024x126, .f32⟩
  | 63 => ⟨S1024x126, .f32⟩
  | 64 => ⟨S1024x126x1, .f32⟩
  | 65 => ⟨S1024x126x126, .f32⟩
  | 66 => ⟨S1024x126x126, .f32⟩
  | 67 => ⟨S1024x126x126, .f32⟩
  | 68 => ⟨S_, .f32⟩
  | 69 => ⟨S1024x126, .f32⟩
  | 70 => ⟨S1024x126x1, .f32⟩
  | 71 => ⟨S1024x126x126, .f32⟩
  | 72 => ⟨S1024x126x126, .f32⟩
  | 73 => ⟨S1024x126x20, .f32⟩
  | 74 => ⟨S1024x126x20, .i32⟩
  | 75 => ⟨S1024x126x20x1, .i32⟩
  | 76 => ⟨S126, .i32⟩
  | 77 => ⟨S1x1x1x126, .i32⟩
  | 78 => ⟨S1024x126x20x126, .i32⟩
  | 79 => ⟨S1024x126x20x126, .i32⟩
  | 80 => ⟨S1024x126x20x126, .i1⟩
  | 81 => ⟨S_, .i1⟩
  | 82 => ⟨S1024x126x126, .i1⟩
  | 83 => ⟨S_, .f32⟩
  | 84 => ⟨S_, .f32⟩
  | 85 => ⟨S1024x126x126, .f32⟩
  | 86 => ⟨S1024x126x126, .f32⟩
  | 87 => ⟨S1024x126x32, .f32⟩
  | 88 => ⟨S126x126, .i32⟩
  | 89 => ⟨S126x126, .i32⟩
  | 90 => ⟨S_, .i32⟩
  | 91 => ⟨S126x126, .i32⟩
  | 92 => ⟨S126x126, .i32⟩
  | 93 => ⟨S126x126, .i1⟩
  | 94 => ⟨S1x126x126, .i1⟩
  | 95 => ⟨S_, .f32⟩
  | 96 => ⟨S_, .f32⟩
  | 97 => ⟨S1024x126x126, .i1⟩
  | 98 => ⟨S1024x126x126, .f32⟩
  | 99 => ⟨S1024x126x126, .f32⟩
  | 100 => ⟨S_, .f32⟩
  | 101 => ⟨S1024x126, .f32⟩
  | 102 => ⟨S_, .f32⟩
  | 103 => ⟨S1024x126, .f32⟩
  | 104 => ⟨S1024x126, .f32⟩
  | 105 => ⟨S_, .f32⟩
  | 106 => ⟨S1024x126, .f32⟩
  | 107 => ⟨S1024x126, .f32⟩
  | 108 => ⟨S1024x126x1, .f32⟩
  | 109 => ⟨S1024x126x126, .f32⟩
  | 110 => ⟨S1024x126x126, .f32⟩
  | 111 => ⟨S1024x1x126, .f32⟩
  | 112 => ⟨S1024x126x126, .f32⟩
  | 113 => ⟨S1024x126x126, .f32⟩
  | 114 => ⟨S1024x126x32, .f32⟩
  | 115 => ⟨S1x1x32, .f32⟩
  | 116 => ⟨S1024x126x32, .f32⟩
  | 117 => ⟨S1024x126x32, .f32⟩
  | 118 => ⟨S_, .f32⟩
  | 119 => ⟨S1024x126x32, .f32⟩
  | 120 => ⟨S1024x126x32, .f32⟩
  | 121 => ⟨S129024x4x10, .f32⟩
  | 122 => ⟨S_, .f32⟩
  | 123 => ⟨S129024x8x32, .f32⟩
  | 124 => ⟨S129024x4x8, .f32⟩
  | 125 => ⟨S32x1x4x1, .f32⟩
  | 126 => ⟨S32x4, .f32⟩
  | 127 => ⟨S129024x8x32, .f32⟩
  | _ => ⟨S129024x40, .f32⟩

abbrev hbmTy0_2 (i : Nat) : BufTy := match i % 128 with
  | 0 => ⟨S129024x8x32, .f32⟩
  | 1 => ⟨S129024x4x8, .f32⟩
  | 2 => ⟨S32x1x4x1, .f32⟩
  | 3 => ⟨S32x4, .f32⟩
  | 4 => ⟨S129024x8x32, .f32⟩
  | 5 => ⟨S129024x8x32, .f32⟩
  | 6 => ⟨S129024x4x8, .f32⟩
  | 7 => ⟨S32x1x4x1, .f32⟩
  | 8 => ⟨S32x4, .f32⟩
  | 9 => ⟨S129024x8x32, .f32⟩
  | 10 => ⟨S129024x8x32, .f32⟩
  | 11 => ⟨S129024x32x8, .f32⟩
  | 12 => ⟨S1x32x1, .f32⟩
  | 13 => ⟨S129024x32x8, .f32⟩
  | 14 => ⟨S129024x32x8, .f32⟩
  | 15 => ⟨S_, .f32⟩
  | 16 => ⟨S129024x32x8, .f32⟩
  | 17 => ⟨S129024x32x8, .f32⟩
  | 18 => ⟨S1024x126x256, .f32⟩
  | 19 => ⟨S1024x126x64, .f32⟩
  | 20 => ⟨S1x1x64, .f32⟩
  | 21 => ⟨S1024x126x64, .f32⟩
  | 22 => ⟨S1024x126x64, .f32⟩
  | 23 => ⟨S1024x126x64, .f32⟩
  | 24 => ⟨S1024x64x126, .f32⟩
  | 25 => ⟨S1024x126x126, .f32⟩
  | 26 => ⟨S_, .f32⟩
  | 27 => ⟨S1024x126, .f32⟩
  | 28 => ⟨S_, .f32⟩
  | 29 => ⟨S1024x126, .f32⟩
  | 30 => ⟨S1024x126, .f32⟩
  | 31 => ⟨S1024x126x1, .f32⟩
  | 32 => ⟨S1024x126x126, .f32⟩
  | 33 => ⟨S1024x126x126, .f32⟩
  | 34 => ⟨S1024x126x126, .f32⟩
  | 35 => ⟨S_, .f32⟩
  | 36 => ⟨S1024x126, .f32⟩
  | 37 => ⟨S1024x126x1, .f32⟩
  | 38 => ⟨S1024x126x126, .f32⟩
  | 39 => ⟨S1024x126x126, .f32⟩
  | 40 => ⟨S1024x126x20, .f32⟩
  | 41 => ⟨S1024x126x20, .i32⟩
  | 42 => ⟨S1024x126x20x1, .i32⟩
  | 43 => ⟨S126, .i32⟩
  | 44 => ⟨S1x1x1x126, .i32⟩
  | 45 => ⟨S1024x126x20x126, .i32⟩
  | 46 => ⟨S1024x126x20x126, .i32⟩
  | 47 => ⟨S1024x126x20x126, .i1⟩
  | 48 => ⟨S_, .i1⟩
  | 49 => ⟨S1024x126x126, .i1⟩
  | 50 => ⟨S_, .f32⟩
  | 51 => ⟨S_, .f32⟩
  | 52 => ⟨S1024x126x126, .f32⟩
  | 53 => ⟨S1024x126x126, .f32⟩
  | 54 => ⟨S1024x126x32, .f32⟩
  | 55 => ⟨S126x126, .i32⟩
  | 56 => ⟨S126x126, .i32⟩
  | 57 => ⟨S_, .i32⟩
  | 58 => ⟨S126x126, .i32⟩
  | 59 => ⟨S126x126, .i32⟩
  | 60 => ⟨S126x126, .i1⟩
  | 61 => ⟨S1x126x126, .i1⟩
  | 62 => ⟨S_, .f32⟩
  | 63 => ⟨S_, .f32⟩
  | 64 => ⟨S1024x126x126, .i1⟩
  | 65 => ⟨S1024x126x126, .f32⟩
  | 66 => ⟨S1024x126x126, .f32⟩
  | 67 => ⟨S_, .f32⟩
  | 68 => ⟨S1024x126, .f32⟩
  | 69 => ⟨S_, .f32⟩
  | 70 => ⟨S1024x126, .f32⟩
  | 71 => ⟨S1024x126, .f32⟩
  | 72 => ⟨S_, .f32⟩
  | 73 => ⟨S1024x126, .f32⟩
  | 74 => ⟨S1024x126, .f32⟩
  | 75 => ⟨S1024x126x1, .f32⟩
  | 76 => ⟨S1024x126x126, .f32⟩
  | 77 => ⟨S1024x126x126, .f32⟩
  | 78 => ⟨S1024x1x126, .f32⟩
  | 79 => ⟨S1024x126x126, .f32⟩
  | 80 => ⟨S1024x126x126, .f32⟩
  | 81 => ⟨S1024x126x32, .f32⟩
  | 82 => ⟨S1x1x32, .f32⟩
  | 83 => ⟨S1024x126x32, .f32⟩
  | 84 => ⟨S1024x126x32, .f32⟩
  | 85 => ⟨S_, .f32⟩
  | 86 => ⟨S1024x126x32, .f32⟩
  | 87 => ⟨S1024x126x32, .f32⟩
  | 88 => ⟨S129024x4x10, .f32⟩
  | 89 => ⟨S_, .f32⟩
  | 90 => ⟨S129024x10x32, .f32⟩
  | 91 => ⟨S32x4, .f32⟩
  | 92 => ⟨S129024x10x32, .f32⟩
  | 93 => ⟨S129024x10x32, .f32⟩
  | 94 => ⟨S129024x32x10, .f32⟩
  | 95 => ⟨S1x32x1, .f32⟩
  | 96 => ⟨S129024x32x10, .f32⟩
  | 97 => ⟨S129024x32x10, .f32⟩
  | 98 => ⟨S_, .f32⟩
  | 99 => ⟨S129024x32x10, .f32⟩
  | 100 => ⟨S129024x32x10, .f32⟩
  | 101 => ⟨S1024x126x320, .f32⟩
  | 102 => ⟨S1024x126x64, .f32⟩
  | 103 => ⟨S1x1x64, .f32⟩
  | 104 => ⟨S1024x126x64, .f32⟩
  | 105 => ⟨S1024x126x64, .f32⟩
  | 106 => ⟨S1024x126x64, .f32⟩
  | 107 => ⟨S1024x64x126, .f32⟩
  | 108 => ⟨S1024x126x126, .f32⟩
  | 109 => ⟨S_, .f32⟩
  | 110 => ⟨S1024x126, .f32⟩
  | 111 => ⟨S_, .f32⟩
  | 112 => ⟨S1024x126, .f32⟩
  | 113 => ⟨S1024x126, .f32⟩
  | 114 => ⟨S1024x126x1, .f32⟩
  | 115 => ⟨S1024x126x126, .f32⟩
  | 116 => ⟨S1024x126x126, .f32⟩
  | 117 => ⟨S1024x126x126, .f32⟩
  | 118 => ⟨S_, .f32⟩
  | 119 => ⟨S1024x126, .f32⟩
  | 120 => ⟨S1024x126x1, .f32⟩
  | 121 => ⟨S1024x126x126, .f32⟩
  | 122 => ⟨S1024x126x126, .f32⟩
  | 123 => ⟨S1024x126x20, .f32⟩
  | 124 => ⟨S1024x126x20, .i32⟩
  | 125 => ⟨S1024x126x20x1, .i32⟩
  | 126 => ⟨S126, .i32⟩
  | 127 => ⟨S1x1x1x126, .i32⟩
  | _ => ⟨S129024x40, .f32⟩

abbrev hbmTy0_3 (i : Nat) : BufTy := match i % 128 with
  | 0 => ⟨S1024x126x20x126, .i32⟩
  | 1 => ⟨S1024x126x20x126, .i32⟩
  | 2 => ⟨S1024x126x20x126, .i1⟩
  | 3 => ⟨S_, .i1⟩
  | 4 => ⟨S1024x126x126, .i1⟩
  | 5 => ⟨S_, .f32⟩
  | 6 => ⟨S_, .f32⟩
  | 7 => ⟨S1024x126x126, .f32⟩
  | 8 => ⟨S1024x126x126, .f32⟩
  | 9 => ⟨S1024x126x32, .f32⟩
  | 10 => ⟨S126x126, .i32⟩
  | 11 => ⟨S126x126, .i32⟩
  | 12 => ⟨S_, .i32⟩
  | 13 => ⟨S126x126, .i32⟩
  | 14 => ⟨S126x126, .i32⟩
  | 15 => ⟨S126x126, .i1⟩
  | 16 => ⟨S1x126x126, .i1⟩
  | 17 => ⟨S_, .f32⟩
  | 18 => ⟨S_, .f32⟩
  | 19 => ⟨S1024x126x126, .i1⟩
  | 20 => ⟨S1024x126x126, .f32⟩
  | 21 => ⟨S1024x126x126, .f32⟩
  | 22 => ⟨S_, .f32⟩
  | 23 => ⟨S1024x126, .f32⟩
  | 24 => ⟨S_, .f32⟩
  | 25 => ⟨S1024x126, .f32⟩
  | 26 => ⟨S1024x126, .f32⟩
  | 27 => ⟨S_, .f32⟩
  | 28 => ⟨S1024x126, .f32⟩
  | 29 => ⟨S1024x126, .f32⟩
  | 30 => ⟨S1024x126x1, .f32⟩
  | 31 => ⟨S1024x126x126, .f32⟩
  | 32 => ⟨S1024x126x126, .f32⟩
  | 33 => ⟨S1024x1x126, .f32⟩
  | 34 => ⟨S1024x126x126, .f32⟩
  | 35 => ⟨S1024x126x126, .f32⟩
  | 36 => ⟨S1024x126x32, .f32⟩
  | 37 => ⟨S1x1x32, .f32⟩
  | 38 => ⟨S1024x126x32, .f32⟩
  | 39 => ⟨S1024x126x32, .f32⟩
  | 40 => ⟨S_, .f32⟩
  | 41 => ⟨S1024x126x32, .f32⟩
  | 42 => ⟨S1024x126x32, .f32⟩
  | 43 => ⟨S1024x504x32, .f32⟩
  | 44 => ⟨S1024x16128, .f32⟩
  | 45 => ⟨S1024x3, .f32⟩
  | 46 => ⟨S1x3, .f32⟩
  | 47 => ⟨S1024x3, .f32⟩
  | 48 => ⟨S1024x3, .f32⟩
  | 49 => ⟨S_, .f32⟩
  | 50 => ⟨S1024, .f32⟩
  | 51 => ⟨S_, .f32⟩
  | 52 => ⟨S1024, .f32⟩
  | 53 => ⟨S1024, .f32⟩
  | 54 => ⟨S1024x1, .f32⟩
  | 55 => ⟨S1024x3, .f32⟩
  | 56 => ⟨S1024x3, .f32⟩
  | 57 => ⟨S1024x3, .f32⟩
  | 58 => ⟨S_, .f32⟩
  | 59 => ⟨S1024, .f32⟩
  | 60 => ⟨S1024x1, .f32⟩
  | 61 => ⟨S1024x3, .f32⟩
  | 62 => ⟨S1024x3, .f32⟩
  | 63 => ⟨S1024x1x3, .f32⟩
  | 64 => ⟨S1024x1x3, .f32⟩
  | _ => ⟨S129024x40, .f32⟩

abbrev hbmTy (i : Nat) : BufTy := match i / 128 with
  | 0 => hbmTy0_0 i
  | 1 => hbmTy0_1 i
  | 2 => hbmTy0_2 i
  | 3 => hbmTy0_3 i
  | _ => ⟨S129024x40, .f32⟩

abbrev bufTy : (tb : Table) → Fin (tcTables nBuf tb) → BufTy
  | .hbm, ⟨i, _⟩ => hbmTy i
  | _, _ => ⟨S129024x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call0_cst : Ref sig .tc := ⟨.hbm, 71, rfl⟩
abbrev main_call0_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_0 : Ref sig .tc := ⟨.hbm, 82, rfl⟩
abbrev main_v50 : Ref sig .tc := ⟨.hbm, 83, rfl⟩
abbrev main_cst_1 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_2 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_values : Ref sig .tc := ⟨.hbm, 96, rfl⟩
abbrev main_indices : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c : Ref sig .tc := ⟨.hbm, 104, rfl⟩
abbrev main_v67 : Ref sig .tc := ⟨.hbm, 105, rfl⟩
abbrev main_cst_3 : Ref sig .tc := ⟨.hbm, 106, rfl⟩
abbrev main_call1_v0 : Ref sig .tc := ⟨.hbm, 107, rfl⟩
abbrev main_call1_v1 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_4 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_5 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v76 : Ref sig .tc := ⟨.hbm, 122, rfl⟩
abbrev main_cst_6 : Ref sig .tc := ⟨.hbm, 123, rfl⟩
abbrev main_v77 : Ref sig .tc := ⟨.hbm, 124, rfl⟩
abbrev main_cst_7 : Ref sig .tc := ⟨.hbm, 125, rfl⟩
abbrev main_v78 : Ref sig .tc := ⟨.hbm, 126, rfl⟩
abbrev main_v79 : Ref sig .tc := ⟨.hbm, 127, rfl⟩
abbrev main_cst_8 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_call3_cst : Ref sig .tc := ⟨.hbm, 141, rfl⟩
abbrev main_call3_v0 : Ref sig .tc := ⟨.hbm, 142, rfl⟩
abbrev main_v92 : Ref sig .tc := ⟨.hbm, 143, rfl⟩
abbrev main_v93 : Ref sig .tc := ⟨.hbm, 144, rfl⟩
abbrev main_cst_9 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_call4_cst : Ref sig .tc := ⟨.hbm, 176, rfl⟩
abbrev main_call4_v0 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_10 : Ref sig .tc := ⟨.hbm, 187, rfl⟩
abbrev main_v133 : Ref sig .tc := ⟨.hbm, 188, rfl⟩
abbrev main_cst_11 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_cst_12 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_values_13 : Ref sig .tc := ⟨.hbm, 201, rfl⟩
abbrev main_indices_14 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_c_15 : Ref sig .tc := ⟨.hbm, 209, rfl⟩
abbrev main_v150 : Ref sig .tc := ⟨.hbm, 210, rfl⟩
abbrev main_cst_16 : Ref sig .tc := ⟨.hbm, 211, rfl⟩
abbrev main_call5_v0 : Ref sig .tc := ⟨.hbm, 212, rfl⟩
abbrev main_call5_v1 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_c_17 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_cst_18 : Ref sig .tc := ⟨.hbm, 223, rfl⟩
abbrev main_call6_v0 : Ref sig .tc := ⟨.hbm, 224, rfl⟩
abbrev main_call6_v1 : Ref sig .tc := ⟨.hbm, 225, rfl⟩
abbrev main_call6_v2 : Ref sig .tc := ⟨.hbm, 226, rfl⟩
abbrev main_v159 : Ref sig .tc := ⟨.hbm, 227, rfl⟩
abbrev main_cst_19 : Ref sig .tc := ⟨.hbm, 228, rfl⟩
abbrev main_v160 : Ref sig .tc := ⟨.hbm, 229, rfl⟩
abbrev main_cst_20 : Ref sig .tc := ⟨.hbm, 230, rfl⟩
abbrev main_v161 : Ref sig .tc := ⟨.hbm, 231, rfl⟩
abbrev main_v162 : Ref sig .tc := ⟨.hbm, 232, rfl⟩
abbrev main_cst_21 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_call7_cst : Ref sig .tc := ⟨.hbm, 246, rfl⟩
abbrev main_call7_v0 : Ref sig .tc := ⟨.hbm, 247, rfl⟩
abbrev main_v175 : Ref sig .tc := ⟨.hbm, 248, rfl⟩
abbrev main_v176 : Ref sig .tc := ⟨.hbm, 249, rfl⟩
abbrev main_cst_22 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_call8_cst : Ref sig .tc := ⟨.hbm, 271, rfl⟩
abbrev main_call8_v0 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_cst_23 : Ref sig .tc := ⟨.hbm, 282, rfl⟩
abbrev main_v206 : Ref sig .tc := ⟨.hbm, 283, rfl⟩
abbrev main_cst_24 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_cst_25 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_values_26 : Ref sig .tc := ⟨.hbm, 296, rfl⟩
abbrev main_indices_27 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_c_28 : Ref sig .tc := ⟨.hbm, 304, rfl⟩
abbrev main_v223 : Ref sig .tc := ⟨.hbm, 305, rfl⟩
abbrev main_cst_29 : Ref sig .tc := ⟨.hbm, 306, rfl⟩
abbrev main_call9_v0 : Ref sig .tc := ⟨.hbm, 307, rfl⟩
abbrev main_call9_v1 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_c_30 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_cst_31 : Ref sig .tc := ⟨.hbm, 318, rfl⟩
abbrev main_call10_v0 : Ref sig .tc := ⟨.hbm, 319, rfl⟩
abbrev main_call10_v1 : Ref sig .tc := ⟨.hbm, 320, rfl⟩
abbrev main_call10_v2 : Ref sig .tc := ⟨.hbm, 321, rfl⟩
abbrev main_v232 : Ref sig .tc := ⟨.hbm, 322, rfl⟩
abbrev main_cst_32 : Ref sig .tc := ⟨.hbm, 323, rfl⟩
abbrev main_v233 : Ref sig .tc := ⟨.hbm, 324, rfl⟩
abbrev main_cst_33 : Ref sig .tc := ⟨.hbm, 325, rfl⟩
abbrev main_v234 : Ref sig .tc := ⟨.hbm, 326, rfl⟩
abbrev main_v235 : Ref sig .tc := ⟨.hbm, 327, rfl⟩
abbrev main_cst_34 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_call11_cst : Ref sig .tc := ⟨.hbm, 341, rfl⟩
abbrev main_call11_v0 : Ref sig .tc := ⟨.hbm, 342, rfl⟩
abbrev main_v248 : Ref sig .tc := ⟨.hbm, 343, rfl⟩
abbrev main_v249 : Ref sig .tc := ⟨.hbm, 344, rfl⟩
abbrev main_cst_35 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_v257 : Ref sig .tc := ⟨.hbm, 353, rfl⟩
abbrev main_call12_cst : Ref sig .tc := ⟨.hbm, 354, rfl⟩
abbrev main_call12_v0 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_cst_36 : Ref sig .tc := ⟨.hbm, 365, rfl⟩
abbrev main_v267 : Ref sig .tc := ⟨.hbm, 366, rfl⟩
abbrev main_cst_37 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_cst_38 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_values_39 : Ref sig .tc := ⟨.hbm, 379, rfl⟩
abbrev main_indices_40 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_c_41 : Ref sig .tc := ⟨.hbm, 387, rfl⟩
abbrev main_v284 : Ref sig .tc := ⟨.hbm, 388, rfl⟩
abbrev main_cst_42 : Ref sig .tc := ⟨.hbm, 389, rfl⟩
abbrev main_call13_v0 : Ref sig .tc := ⟨.hbm, 390, rfl⟩
abbrev main_call13_v1 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_v288 : Ref sig .tc := ⟨.hbm, 395, rfl⟩
abbrev main_c_43 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_cst_44 : Ref sig .tc := ⟨.hbm, 401, rfl⟩
abbrev main_call14_v0 : Ref sig .tc := ⟨.hbm, 402, rfl⟩
abbrev main_call14_v1 : Ref sig .tc := ⟨.hbm, 403, rfl⟩
abbrev main_call14_v2 : Ref sig .tc := ⟨.hbm, 404, rfl⟩
abbrev main_v293 : Ref sig .tc := ⟨.hbm, 405, rfl⟩
abbrev main_cst_45 : Ref sig .tc := ⟨.hbm, 406, rfl⟩
abbrev main_v294 : Ref sig .tc := ⟨.hbm, 407, rfl⟩
abbrev main_cst_46 : Ref sig .tc := ⟨.hbm, 408, rfl⟩
abbrev main_v295 : Ref sig .tc := ⟨.hbm, 409, rfl⟩
abbrev main_v296 : Ref sig .tc := ⟨.hbm, 410, rfl⟩
abbrev main_cst_47 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_v301 : Ref sig .tc := ⟨.hbm, 416, rfl⟩
abbrev main_v302 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_v308 : Ref sig .tc := ⟨.hbm, 423, rfl⟩
abbrev main_call15_cst : Ref sig .tc := ⟨.hbm, 424, rfl⟩
abbrev main_call15_v0 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_v315 : Ref sig .tc := ⟨.hbm, 432, rfl⟩
abbrev main_cst_48 : Ref sig .tc := ⟨.hbm, 433, rfl⟩
abbrev main_v316 : Ref sig .tc := ⟨.hbm, 434, rfl⟩
abbrev main_cst_49 : Ref sig .tc := ⟨.hbm, 435, rfl⟩
abbrev main_v317 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_v321 : Ref sig .tc := ⟨.hbm, 440, rfl⟩
abbrev main_v322 : Ref sig .tc := ⟨.hbm, 441, rfl⟩
abbrev main_cst_50 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_v327 : Ref sig .tc := ⟨.hbm, 447, rfl⟩
abbrev main_v328 : Ref sig .tc := ⟨.hbm, 448, rfl⟩

abbrev nD : Nat := 1
abbrev τ : Topo := Topo.v7x

variable {F : FTy → Type} [FloatOps F]
-- ==== Proof.Place.lean ====
/- The host's placement of a convolution's weights into a matrix, one window at a time. -/
module

public import Idealize.ShloMosaic.Lib.Pointwise
public import Idealize.ShloMosaic.Lib.Routing.OpsSet

@[expose] public section

noncomputable section

namespace Cert.Place

open Idealize.ShloMosaic Idealize.ShloMosaic.Routing

/-- The dimension numbers of the placement of a `[4, kw, 32]` window in a `[4, 10, 32, wd]` array. -/
def dims (kw wd : ℕ) (h : ScatterDims.WF ⟨4, ![4, 10, 32, wd]⟩ ⟨1, ![2]⟩ ⟨3, ![4, kw, 32]⟩ [0, 1, 2] [3] [1, 3] 0) :
    ScatterDims ⟨4, ![4, 10, 32, wd]⟩ ⟨1, ![2]⟩ ⟨3, ![4, kw, 32]⟩ where
  updateWindowDims := [0, 1, 2]
  insertedWindowDims := [3]
  scatterDimsToOperandDims := [1, 3]
  indexVectorDim := 0
  wf := h

/-- An update lands at an index exactly when the start plus the window coordinate is the index on each axis. -/
theorem lands_iff {s si u : Shape} {w : ℕ} (d : ScatterDims s si u) (j : u.Idx) (idx : IVec si w) (i : s.Idx) :
    d.resultIdx? j idx = some i ↔ ∀ a, d.start j idx a + d.window j a = (i a).val := by
  unfold ScatterDims.resultIdx?
  split
  · rename_i h
    refine ⟨fun e => ?_, fun e => congrArg some (funext fun a => ?_)⟩
    · obtain rfl := Option.some.inj e
      intro a
      have := h a
      simp only
      omega
    · have := e a
      exact Fin.ext (by simp only; omega)
  · rename_i h
    refine ⟨fun e => (nomatch e), fun e => absurd (fun a => ?_) h⟩
    have := e a
    have := (i a).isLt
    omega

variable {kw wd : ℕ} (h : ScatterDims.WF ⟨4, ![4, 10, 32, wd]⟩ ⟨1, ![2]⟩ ⟨3, ![4, kw, 32]⟩ [0, 1, 2] [3] [1, 3] 0)

/-- Where the update at an index lands: its middle coordinate moved by the start, in the start's column. -/
theorem lands (idx : IVec ⟨1, ![2]⟩ 32) (s : ℕ) (h0 : (idx (ix1 0)).toInt = s) (h1 : (idx (ix1 1)).toInt = s)
    (r : Fin 4) (k : Fin kw) (o : Fin 32) (r' : Fin 4) (f : Fin 10) (o' : Fin 32) (w : Fin wd) :
    (dims kw wd h).resultIdx? (ix3 r k o) idx = some (ix4 r' f o' w)
      ↔ r = r' ∧ s + k.val = f.val ∧ o = o' ∧ s = w.val := by
  have s0 : (dims kw wd h).start (ix3 r k o) idx 0 = 0 := rfl
  have s1 : (dims kw wd h).start (ix3 r k o) idx 1 = s := by
    refine Eq.trans ?_ h0
    refine congrArg (fun t => (idx t).toInt) (funext fun a => ?_)
    obtain rfl : a = 0 := Subsingleton.elim _ _
    rfl
  have s2 : (dims kw wd h).start (ix3 r k o) idx 2 = 0 := rfl
  have s3 : (dims kw wd h).start (ix3 r k o) idx 3 = s := by
    refine Eq.trans ?_ h1
    refine congrArg (fun t => (idx t).toInt) (funext fun a => ?_)
    obtain rfl : a = 0 := Subsingleton.elim _ _
    rfl
  have w0 : (dims kw wd h).window (ix3 r k o) 0 = r.val := rfl
  have w1 : (dims kw wd h).window (ix3 r k o) 1 = k.val := rfl
  have w2 : (dims kw wd h).window (ix3 r k o) 2 = o.val := rfl
  have w3 : (dims kw wd h).window (ix3 r k o) 3 = 0 := rfl
  rw [lands_iff]
  constructor
  · intro e
    have e0 := e 0
    have e1 := e 1
    have e2 := e 2
    have e3 := e 3
    rw [s0, w0] at e0
    rw [s1, w1] at e1
    rw [s2, w2] at e2
    rw [s3, w3] at e3
    replace e0 : ((0 : Int) + r.val) = (r'.val : Int) := e0
    replace e1 : ((s : Int) + k.val) = (f.val : Int) := e1
    replace e2 : ((0 : Int) + o.val) = (o'.val : Int) := e2
    replace e3 : ((s : Int) + (0 : ℕ)) = (w.val : Int) := e3
    exact ⟨Fin.ext (by omega), by omega, Fin.ext (by omega), by omega⟩
  · rintro ⟨rfl, e1, rfl, e3⟩ a
    match a with
    | ⟨0, _⟩ => exact (congrArg₂ (fun (x : Int) (y : ℕ) => x + y) s0 w0).trans (by show (0 : Int) + r.val = r.val; omega)
    | ⟨1, _⟩ => exact (congrArg₂ (fun (x : Int) (y : ℕ) => x + y) s1 w1).trans (by show (s : Int) + k.val = f.val; omega)
    | ⟨2, _⟩ => exact (congrArg₂ (fun (x : Int) (y : ℕ) => x + y) s2 w2).trans (by show (0 : Int) + o.val = o.val; omega)
    | ⟨3, _⟩ => exact (congrArg₂ (fun (x : Int) (y : ℕ) => x + y) s3 w3).trans (by show (s : Int) + (0 : ℕ) = w.val; omega)

/-- The first `s` columns are placed: column `w` holds the weights from row `w` on, and everything else is zero. -/
def Upto (u : Vec Ideal ⟨3, ![4, kw, 32]⟩ .f32) (x : Vec Ideal ⟨4, ![4, 10, 32, wd]⟩ .f32) (s : ℕ) : Prop :=
  ∀ (r : Fin 4) (f : Fin 10) (o : Fin 32) (w : Fin wd), x (ix4 r f o w)
    = if h : w.val < s ∧ w.val ≤ f.val ∧ f.val < w.val + kw then u (ix3 r ⟨f.val - w.val, by omega⟩ o) else 0

/-- One placement more. -/
theorem Upto.set {u : Vec Ideal ⟨3, ![4, kw, 32]⟩ .f32} {x : Vec Ideal ⟨4, ![4, 10, 32, wd]⟩ .f32} {s : ℕ}
    (hx : Upto u x s) (idx : IVec ⟨1, ![2]⟩ 32) (h0 : (idx (ix1 0)).toInt = s) (h1 : (idx (ix1 1)).toInt = s) :
    Upto u (Host.scatter (dims kw wd h) (fun _ b => b) x idx u) (s + 1) := by
  intro r f o w
  have key : ∀ j : Shape.Idx ⟨3, ![4, kw, 32]⟩, (dims kw wd h).resultIdx? j idx = some (ix4 r f o w)
      → j 0 = r ∧ s + (j 1).val = f.val ∧ j 2 = o ∧ s = w.val := fun j hj => by
    rw [eq_ix3 j] at hj
    exact (lands h idx s h0 h1 _ _ _ _ _ _ _).mp hj
  by_cases c : s = w.val ∧ w.val ≤ f.val ∧ f.val < w.val + kw
  · rw [dif_pos ⟨by omega, c.2⟩]
    refine scatter_set_hit (dims kw wd h) x idx u _ _ (fun j hj => ?_) (ix3 r ⟨f.val - w.val, by omega⟩ o)
      ((lands h idx s h0 h1 _ _ _ _ _ _ _).mpr ⟨rfl, by simp only; omega, rfl, c.1⟩)
    obtain ⟨e0, e1, e2, e3⟩ := key j hj
    rw [eq_ix3 j, e0, e2]
    congr 2
    exact Fin.ext (by simp only; omega)
  · rw [scatter_set_miss (dims kw wd h) x idx u _ fun j hj => c ?_, hx r f o w]
    · by_cases c' : w.val < s ∧ w.val ≤ f.val ∧ f.val < w.val + kw
      · rw [dif_pos c', dif_pos ⟨by omega, c'.2⟩]
      · rw [dif_neg c', dif_neg (by omega)]
    · obtain ⟨e0, e1, e2, e3⟩ := key j hj
      have := (j 1).isLt
      replace this : (j 1).val < kw := this
      omega

end Cert.Place

end
-- ==== Proof.Host.lean ====
/- What the host prepares for the kernel: the matrix of the four convolutions, and the arrays that are reshaped. -/
module

public import proofs.«01_k».proof.Proof.Gen.KernelIdeal.Frame
public import proofs.«01_k».proof.Proof.Place
public import Idealize.ShloMosaic.Lib.StableHlo.RunRead

@[expose] public section

noncomputable section

namespace Cert.KernelIdeal.Host

open Cert.KernelIdeal Cert.KernelIdeal.Gen Idealize.ShloMosaic Idealize.ShloMosaic.TcCoe Idealize.SL.Sem

/-- Two arrays one after another. -/
def join {α : Type} (t : Shape) (a : Fin t.rank) {s₁ s₂ : Shape} (x : s₁.Idx → α) (y : s₂.Idx → α)
    (h : Shape.Concatenates [s₁, s₂] t a) : t.Idx → α := concatenate t a [⟨s₁, x⟩, ⟨s₂, y⟩] h

theorem join_eq {α : Type} (t : Shape) (a : Fin t.rank) {s₁ s₂ : Shape} (x : s₁.Idx → α) (y : s₂.Idx → α)
    (h : Shape.Concatenates [s₁, s₂] t a) : concatenate t a [⟨s₁, x⟩, ⟨s₂, y⟩] h = join t a x y h := rfl

/-- The start of a placement: the same number twice. -/
def pair (n : BitVec 32) : IVec S2 32 :=
  join S2 0 (broadcastInDim S1 ![] bcast_S_S1 (constantI S_ 32 n)) (broadcastInDim S1 ![] bcast_S_S1 (constantI S_ 32 n))
    concatenates_S1_S1_S2_d0

/-- The window placed at the first `n` starts. -/
def placed {s u : Shape} (d : ScatterDims s S2 u) (x : Vec Ideal s .f32) (w : Vec Ideal u .f32) : ℕ → Vec Ideal s .f32
  | 0 => x
  | n + 1 => Host.scatter d (fun _ b => b) (placed d x w n) (pair (BitVec.ofNat 32 n)) w

/-- The first convolution's columns. -/
def cols0 (W : Vec Ideal S32x1x4x7 .f32) : Vec Ideal S4x10x32x4 .f32 :=
  placed scatter_S4x10x32x4_S2_S4x7x32_012_3_13_0 (broadcastInDim S4x10x32x4 ![] bcast_S_S4x10x32x4 (constant (F := Ideal) S_ .f32 0x00000000#32))
    (transpose S4x7x32 [1, 2, 0] (shapeCast S32x4x7 W shapeCasts_S32x1x4x7_S32x4x7) transposes_S32x4x7_S4x7x32_1_2_0) 4

/-- The second convolution's columns. -/
def cols1 (W : Vec Ideal S32x1x4x5 .f32) : Vec Ideal S4x10x32x6 .f32 :=
  placed scatter_S4x10x32x6_S2_S4x5x32_012_3_13_0 (broadcastInDim S4x10x32x6 ![] bcast_S_S4x10x32x6 (constant (F := Ideal) S_ .f32 0x00000000#32))
    (transpose S4x5x32 [1, 2, 0] (shapeCast S32x4x5 W shapeCasts_S32x1x4x5_S32x4x5) transposes_S32x4x5_S4x5x32_1_2_0) 6

/-- The third convolution's columns. -/
def cols2 (W : Vec Ideal S32x1x4x3 .f32) : Vec Ideal S4x10x32x8 .f32 :=
  placed scatter_S4x10x32x8_S2_S4x3x32_012_3_13_0 (broadcastInDim S4x10x32x8 ![] bcast_S_S4x10x32x8 (constant (F := Ideal) S_ .f32 0x00000000#32))
    (transpose S4x3x32 [1, 2, 0] (shapeCast S32x4x3 W shapeCasts_S32x1x4x3_S32x4x3) transposes_S32x4x3_S4x3x32_1_2_0) 8

/-- The fourth convolution's columns. -/
def cols3 (W : Vec Ideal S32x1x4x1 .f32) : Vec Ideal S4x10x32x10 .f32 :=
  placed scatter_S4x10x32x10_S2_S4x1x32_012_3_13_0 (broadcastInDim S4x10x32x10 ![] bcast_S_S4x10x32x10 (constant (F := Ideal) S_ .f32 0x00000000#32))
    (transpose S4x1x32 [1, 2, 0] (shapeCast S32x4x1 W shapeCasts_S32x1x4x1_S32x4x1) transposes_S32x4x1_S4x1x32_1_2_0) 10

/-- The blocks of columns side by side. -/
def beside (a : Vec Ideal S40x128 .f32) (b : Vec Ideal S40x192 .f32) (z : Vec Ideal S40x64 .f32) (c : Vec Ideal S40x256 .f32)
    (d : Vec Ideal S40x320 .f32) : Vec Ideal S40x960 .f32 :=
  concatenate S40x960 1 [⟨S40x128, a⟩, ⟨S40x192, b⟩, ⟨S40x64, z⟩, ⟨S40x256, c⟩, ⟨S40x320, d⟩]
    concatenates_S40x128_S40x192_S40x64_S40x256_S40x320_S40x960_d1

theorem beside_eq (a : Vec Ideal S40x128 .f32) (b : Vec Ideal S40x192 .f32) (z : Vec Ideal S40x64 .f32)
    (c : Vec Ideal S40x256 .f32) (d : Vec Ideal S40x320 .f32) :
    concatenate S40x960 1 [⟨S40x128, a⟩, ⟨S40x192, b⟩, ⟨S40x64, z⟩, ⟨S40x256, c⟩, ⟨S40x320, d⟩]
      concatenates_S40x128_S40x192_S40x64_S40x256_S40x320_S40x960_d1 = beside a b z c d := rfl

/-- The biases one after another. -/
def after5 (a : Vec Ideal S128 .f32) (b : Vec Ideal S192 .f32) (z : Vec Ideal S64 .f32) (c : Vec Ideal S256 .f32)
    (d : Vec Ideal S320 .f32) : Vec Ideal S960 .f32 :=
  concatenate S960 0 [⟨S128, a⟩, ⟨S192, b⟩, ⟨S64, z⟩, ⟨S256, c⟩, ⟨S320, d⟩] concatenates_S128_S192_S64_S256_S320_S960_d0

theorem after5_eq (a : Vec Ideal S128 .f32) (b : Vec Ideal S192 .f32) (z : Vec Ideal S64 .f32) (c : Vec Ideal S256 .f32)
    (d : Vec Ideal S320 .f32) :
    concatenate S960 0 [⟨S128, a⟩, ⟨S192, b⟩, ⟨S64, z⟩, ⟨S256, c⟩, ⟨S320, d⟩]
      concatenates_S128_S192_S64_S256_S320_S960_d0 = after5 a b z c d := rfl

/-- The matrix of the four convolutions. -/
def amat (W0 : Vec Ideal S32x1x4x7 .f32) (W1 : Vec Ideal S32x1x4x5 .f32) (W2 : Vec Ideal S32x1x4x3 .f32)
    (W3 : Vec Ideal S32x1x4x1 .f32) : Vec Ideal S40x960 .f32 :=
  beside (shapeCast S40x128 (cols0 W0) shapeCasts_S4x10x32x4_S40x128)
    (shapeCast S40x192 (cols1 W1) shapeCasts_S4x10x32x6_S40x192)
    (broadcastInDim S40x64 ![] bcast_S_S40x64 (constant (F := Ideal) S_ .f32 0x00000000#32))
    (shapeCast S40x256 (cols2 W2) shapeCasts_S4x10x32x8_S40x256)
    (shapeCast S40x320 (cols3 W3) shapeCasts_S4x10x32x10_S40x320)

/-- The row of the four convolutions' biases. -/
def brow (b0 b1 b2 b3 : Vec Ideal S32 .f32) : Vec Ideal S1x960 .f32 :=
  shapeCast S1x960 (after5
    (shapeCast S128 (broadcastInDim S32x4 ![0] bcast_S32_S32x4_0 b0) shapeCasts_S32x4_S128)
    (shapeCast S192 (broadcastInDim S32x6 ![0] bcast_S32_S32x6_0 b1) shapeCasts_S32x6_S192)
    (broadcastInDim S64 ![] bcast_S_S64 (constant (F := Ideal) S_ .f32 0x00000000#32))
    (shapeCast S256 (broadcastInDim S32x8 ![0] bcast_S32_S32x8_0 b2) shapeCasts_S32x8_S256)
    (shapeCast S320 (broadcastInDim S32x10 ![0] bcast_S32_S32x10_0 b3) shapeCasts_S32x10_S320)) shapeCasts_S960_S1x960

/-- Block 0 of the matrix. -/
theorem upto_v20 (V : Valuation τ sig (Elt Ideal)) :
    (StableHlo.upto hostOps0 V 201 (Proc.devRef .tc main_v20) : Vec Ideal S40x128 .f32)
      = shapeCast S40x128 (cols0 (V (Proc.devRef .tc main_arg3))) shapeCasts_S4x10x32x4_S40x128 := by
  after_reads_simp [join_eq]
  rfl

/-- Block 1 of the matrix. -/
theorem upto_v50 (V : Valuation τ sig (Elt Ideal)) :
    (StableHlo.upto hostOps0 V 201 (Proc.devRef .tc main_v50) : Vec Ideal S40x192 .f32)
      = shapeCast S40x192 (cols1 (V (Proc.devRef .tc main_arg5))) shapeCasts_S4x10x32x6_S40x192 := by
  after_reads_simp [join_eq]
  rfl

/-- Block 2 of the matrix. -/
theorem upto_v88 (V : Valuation τ sig (Elt Ideal)) :
    (StableHlo.upto hostOps0 V 201 (Proc.devRef .tc main_v88) : Vec Ideal S40x256 .f32)
      = shapeCast S40x256 (cols2 (V (Proc.devRef .tc main_arg7))) shapeCasts_S4x10x32x8_S40x256 := by
  after_reads_simp [join_eq]
  rfl

/-- Block 3 of the matrix. -/
theorem upto_v134 (V : Valuation τ sig (Elt Ideal)) :
    (StableHlo.upto hostOps0 V 201 (Proc.devRef .tc main_v134) : Vec Ideal S40x320 .f32)
      = shapeCast S40x320 (cols3 (V (Proc.devRef .tc main_arg9))) shapeCasts_S4x10x32x10_S40x320 := by
  after_reads_simp [join_eq]
  rfl

variable (m : (ℓ : Loc nD τ sig) → Buf (Elt Ideal) ℓ) (c : Dev nD)

/-- The matrix that the kernel is given. -/
theorem V_v139 : (V m c main_v139 : Vec Ideal S40x960 .f32)
    = amat (m ((c : Thread nD τ).loc main_arg3)) (m ((c : Thread nD τ).loc main_arg5))
      (m ((c : Thread nD τ).loc main_arg7)) (m ((c : Thread nD τ).loc main_arg9)) := by
  unfold V
  after_reads_simp
  dsimp only [Matrix.cons_val]
  change beside _ _ _ _ _ = _
  rw [upto_v20, upto_v50, upto_v88, upto_v134]
  after_reads_simp
  rfl

/-- The bias row that the kernel is given. -/
theorem V_v141 : (V m c main_v141 : Vec Ideal S1x960 .f32)
    = brow (m ((c : Thread nD τ).loc main_arg4)) (m ((c : Thread nD τ).loc main_arg6))
      (m ((c : Thread nD τ).loc main_arg8)) (m ((c : Thread nD τ).loc main_arg10)) := by
  unfold V
  after_reads_simp
  dsimp only [Matrix.cons_val]
  change shapeCast S1x960 (after5 _ _ _ _ _) shapeCasts_S960_S1x960 = _
  after_reads_simp [join_eq]
  rfl

/-- The graphs that the kernel is given. -/
theorem V_v0 : (V m c main_v0 : Vec Ideal S1024x126x40 .f32)
    = shapeCast S1024x126x40 (m ((c : Thread nD τ).loc main_arg0)) shapeCasts_S129024x40_S1024x126x40 := by
  unfold V
  after_reads_simp
  rfl

/-- The final weights that the kernel is given. -/
theorem V_v143 : (V m c main_v143 : Vec Ideal S3x504x32 .f32)
    = transpose S3x504x32 [2, 0, 1] (shapeCast S504x32x3 (m ((c : Thread nD τ).loc main_arg27)) shapeCasts_S16128x3_S504x32x3)
      transposes_S504x32x3_S3x504x32_2_0_1 := by
  unfold V
  after_reads_simp
  rfl

/-- The first branch's bottleneck bias, as a row. -/
theorem V_v144 : (V m c main_v144 : Vec Ideal S1x64 .f32)
    = shapeCast S1x64 (m ((c : Thread nD τ).loc main_arg12)) shapeCasts_S64_S1x64 := by
  unfold V
  after_reads_simp
  rfl

/-- The first branch's graph convolution bias, as a row. -/
theorem V_v145 : (V m c main_v145 : Vec Ideal S1x32 .f32)
    = shapeCast S1x32 (m ((c : Thread nD τ).loc main_arg14)) shapeCasts_S32_S1x32 := by
  unfold V
  after_reads_simp
  rfl

/-- The second branch's bottleneck bias, as a row. -/
theorem V_v146 : (V m c main_v146 : Vec Ideal S1x64 .f32)
    = shapeCast S1x64 (m ((c : Thread nD τ).loc main_arg16)) shapeCasts_S64_S1x64 := by
  unfold V
  after_reads_simp
  rfl

/-- The second branch's graph convolution bias, as a row. -/
theorem V_v147 : (V m c main_v147 : Vec Ideal S1x32 .f32)
    = shapeCast S1x32 (m ((c : Thread nD τ).loc main_arg18)) shapeCasts_S32_S1x32 := by
  unfold V
  after_reads_simp
  rfl

/-- The third branch's bottleneck bias, as a row. -/
theorem V_v148 : (V m c main_v148 : Vec Ideal S1x64 .f32)
    = shapeCast S1x64 (m ((c : Thread nD τ).loc main_arg20)) shapeCasts_S64_S1x64 := by
  unfold V
  after_reads_simp
  rfl

/-- The third branch's graph convolution bias, as a row. -/
theorem V_v149 : (V m c main_v149 : Vec Ideal S1x32 .f32)
    = shapeCast S1x32 (m ((c : Thread nD τ).loc main_arg22)) shapeCasts_S32_S1x32 := by
  unfold V
  after_reads_simp
  rfl

/-- The fourth branch's bottleneck bias, as a row. -/
theorem V_v150 : (V m c main_v150 : Vec Ideal S1x64 .f32)
    = shapeCast S1x64 (m ((c : Thread nD τ).loc main_arg24)) shapeCasts_S64_S1x64 := by
  unfold V
  after_reads_simp
  rfl

/-- The fourth branch's graph convolution bias, as a row. -/
theorem V_v151 : (V m c main_v151 : Vec Ideal S1x32 .f32)
    = shapeCast S1x32 (m ((c : Thread nD τ).loc main_arg26)) shapeCasts_S32_S1x32 := by
  unfold V
  after_reads_simp
  rfl

/-- The final bias, as a row. -/
theorem V_v152 : (V m c main_v152 : Vec Ideal S1x3 .f32)
    = shapeCast S1x3 (m ((c : Thread nD τ).loc main_arg28)) shapeCasts_S3_S1x3 := by
  unfold V
  after_reads_simp
  rfl

end Cert.KernelIdeal.Host

end
-- ==== Proof.Block.lean ====
module

public import proofs.«01_k».proof.Proof.Gen.KernelIdeal.Frame

/-! # What one grid point computes

The kernel's body as a handful of functions of vectors: the features of a graph, a branch's scores, the
twenty-largest mask of every column, the branch's output and the logits.  The theorems at the end say that the
values the body stores are these functions of its input blocks. -/

@[expose] public section

set_option maxRecDepth 16384

noncomputable section

namespace Cert.KernelIdeal.Block

open Idealize.ShloMosaic Cert.KernelIdeal Cert.KernelIdeal.Gen

variable {F : FTy → Type} [FloatOps F]

/-- One extraction round: in every column, the entries that equal the column's maximum become -1. -/
def step (v : FVec F S126x126 .f32) : FVec F S126x126 .f32 :=
  select (cmpf .oeq v (broadcastTo S126x126 (shapeCast S1x126 (multiReduction .maximumf [0] S126 v 0xFF800000#32
    reduces_S126x126_S126 (.inl rfl) rfl) shapeCasts_S126_S1x126) broadcasts_S1x126_S126x126))
    (broadcast S126x126 (Scalar.ofBits .f32 0xBF800000#32)) v

/-- `n` extraction rounds. -/
def steps : ℕ → FVec F S126x126 .f32 → FVec F S126x126 .f32
  | 0, v => v
  | n + 1, v => step (steps n v)

/-- The sort key of a score: the score plus 128. -/
def key (raw : FVec F S126x126 .f32) : FVec F S126x126 .f32 :=
  addf raw (broadcast S126x126 (Scalar.ofBits .f32 0x43000000#32))

/-- The mask of each column's twenty largest scores. -/
def mask (raw : FVec F S126x126 .f32) : IVec S126x126 1 :=
  cmpf .olt (steps 20 (key raw)) (broadcast S126x126 (Scalar.ofBits .f32 0x00000000#32))

/-- The exponentials of a column's scores, less the column's maximum. -/
def expo (raw : FVec F S126x126 .f32) : FVec F S126x126 .f32 :=
  exp (subf raw (broadcastTo S126x126 (shapeCast S1x126 (multiReduction .maximumf [0] S126 raw 0xFF800000#32
    reduces_S126x126_S126 (.inl rfl) rfl) shapeCasts_S126_S1x126) broadcasts_S1x126_S126x126))

/-- A column's sums, as one row. -/
def colSum (v : FVec F S126x126 .f32) : FVec F S1x126 .f32 :=
  shapeCast S1x126 (multiReduction .add [0] S126 v 0x00000000#32 reduces_S126x126_S126 (.inl rfl) rfl)
    shapeCasts_S126_S1x126

/-- The masked softmax of every column, with ones on the diagonal. -/
def prob (raw : FVec F S126x126 .f32) (mb : IVec S126x126 1) : FVec F S126x126 .f32 :=
  select k0_pay4 (broadcast S126x126 (Scalar.ofBits .f32 0x3F800000#32))
    (select mb (divf (expo raw) (broadcastTo S126x126 (colSum (expo raw)) broadcasts_S1x126_S126x126))
      (broadcast S126x126 (Scalar.ofBits .f32 0x00000000#32)))

/-- The inverse square roots of the degrees, as one row. -/
def dinv (p : FVec F S126x126 .f32) : FVec F S1x126 .f32 :=
  rsqrt (maximumf (colSum p) (broadcast S1x126 (Scalar.ofBits .f32 0x3F800000#32)))

/-- A bias row spread over the nodes. -/
def rows32 (b : Vec F S1x32 .f32) : FVec F S126x32 .f32 :=
  broadcastTo S126x32 (shapeCast S1x32 (shapeCast S32 b shapeCasts_S1x32_S32) shapeCasts_S32_S1x32)
    broadcasts_S1x32_S126x32

/-- The branch's output from its propagation matrix. -/
def conv (p : FVec F S126x126 .f32) (h : FVec F S126x32 .f32) (bg : Vec F S1x32 .f32) : FVec F S126x32 .f32 :=
  maximumf (addf (matmul dot_S126x126_S126x32_S126x32_0_0_1_1_n_n none
    (mulf p (broadcastTo S126x126 (dinv p) broadcasts_S1x126_S126x126))
    (mulf h (broadcastTo S126x32 (matmul dot_S126x126_S1x126_S126x1_1_1_0_0_n_n none k0_pay5 (dinv p)
      (constant S126x1 .f32 0x00000000#32)) broadcasts_S126x1_S126x32))
    (constant S126x32 .f32 0x00000000#32)) (rows32 bg))
    (broadcast S126x32 (Scalar.ofBits .f32 0x00000000#32))

/-- The branch's output from its scores. -/
def out (raw : FVec F S126x126 .f32) (h : FVec F S126x32 .f32) (bg : Vec F S1x32 .f32) : FVec F S126x32 .f32 :=
  conv (prob raw (mask raw)) h bg

/-- A branch's share of a logit, added to what was there. -/
def acc (a : FVec F S1x32 .f32) (o : FVec F S126x32 .f32) (w : Vec F S1x126x32 .f32) : FVec F S1x32 .f32 :=
  addf a (shapeCast S1x32 (multiReduction .add [0] S32 (mulf o (shapeCast S126x32 w shapeCasts_S1x126x32_S126x32))
    0x00000000#32 reduces_S126x32_S32 (.inl rfl) rfl) shapeCasts_S32_S1x32)

/-- The row of zeros the shares start from. -/
def zero32 : FVec F S1x32 .f32 := broadcast S1x32 (Scalar.ofBits .f32 0x00000000#32)

/-- The scores of a branch from its bottleneck products. -/
def score (z : FVec F S126x64 .f32) (b : Vec F S1x64 .f32) : FVec F S126x126 .f32 :=
  let t : FVec F S126x64 .f32 := tanh (addf z (broadcastTo S126x64 (shapeCast S1x64 (shapeCast S64 b shapeCasts_S1x64_S64)
    shapeCasts_S64_S1x64) broadcasts_S1x64_S126x64))
  matmul dot_S126x64_S126x64_S126x126_1_1_0_0_n_n none t t (constant S126x126 .f32 0x00000000#32)

section graph

variable (xg : Vec F S1x126x40 .f32) (A : Vec F S40x960 .f32) (bf : Vec F S1x960 .f32)

/-- The features of all four branches of one graph. -/
def feat : FVec F S126x960 .f32 := k0_pay6 xg A bf

/-- The first branch's output. -/
def out0 (wbn : Vec F S128x64 .f32) (bbn : Vec F S1x64 .f32) (wg : Vec F S128x32 .f32) (bg : Vec F S1x32 .f32) :
    FVec F S126x32 .f32 :=
  let f : FVec F S126x128 .f32 := extractStridedSlice S126x128 ![0, 0] (feat xg A bf) slices_S126x960_o0_0_S126x128
  out (score (matmul dot_S126x128_S128x64_S126x64_1_0_0_1_n_n none f wbn (constant S126x64 .f32 0x00000000#32)) bbn)
    (matmul dot_S126x128_S128x32_S126x32_1_0_0_1_n_n none f wg (constant S126x32 .f32 0x00000000#32)) bg

/-- The second branch's output. -/
def out1 (wbn : Vec F S192x64 .f32) (bbn : Vec F S1x64 .f32) (wg : Vec F S192x32 .f32) (bg : Vec F S1x32 .f32) :
    FVec F S126x32 .f32 :=
  let f : FVec F S126x192 .f32 := extractStridedSlice S126x192 ![0, 128] (feat xg A bf) slices_S126x960_o0_128_S126x192
  out (score (matmul dot_S126x192_S192x64_S126x64_1_0_0_1_n_n none f wbn (constant S126x64 .f32 0x00000000#32)) bbn)
    (matmul dot_S126x192_S192x32_S126x32_1_0_0_1_n_n none f wg (constant S126x32 .f32 0x00000000#32)) bg

/-- The third branch's output. -/
def out2 (wbn : Vec F S256x64 .f32) (bbn : Vec F S1x64 .f32) (wg : Vec F S256x32 .f32) (bg : Vec F S1x32 .f32) :
    FVec F S126x32 .f32 :=
  let f : FVec F S126x256 .f32 := extractStridedSlice S126x256 ![0, 384] (feat xg A bf) slices_S126x960_o0_384_S126x256
  out (score (matmul dot_S126x256_S256x64_S126x64_1_0_0_1_n_n none f wbn (constant S126x64 .f32 0x00000000#32)) bbn)
    (matmul dot_S126x256_S256x32_S126x32_1_0_0_1_n_n none f wg (constant S126x32 .f32 0x00000000#32)) bg

/-- The fourth branch's output. -/
def out3 (wbn : Vec F S320x64 .f32) (bbn : Vec F S1x64 .f32) (wg : Vec F S320x32 .f32) (bg : Vec F S1x32 .f32) :
    FVec F S126x32 .f32 :=
  let f : FVec F S126x320 .f32 := extractStridedSlice S126x320 ![0, 640] (feat xg A bf) slices_S126x960_o0_640_S126x320
  out (score (matmul dot_S126x320_S320x64_S126x64_1_0_0_1_n_n none f wbn (constant S126x64 .f32 0x00000000#32)) bbn)
    (matmul dot_S126x320_S320x32_S126x32_1_0_0_1_n_n none f wg (constant S126x32 .f32 0x00000000#32)) bg

end graph

/-- One logit of a graph from the four outputs and their weights. -/
def logit (o0 o1 o2 o3 : FVec F S126x32 .f32) (w0 w1 w2 w3 : Vec F S1x126x32 .f32) : FVec F S1 .f32 :=
  multiReduction .add [1] S1 (acc (acc (acc (acc zero32 o0 w0) o1 w1) o2 w2) o3 w3) 0x00000000#32 reduces_S1x32_S1
    (.inl rfl) rfl

/-- The three logits of a graph. -/
def logits (l0 l1 l2 : FVec F S1 .f32) (bend : Vec F S1x3 .f32) : FVec F S1x3 .f32 :=
  k0_pay1 (shapeCast S1x1 l0 shapeCasts_S1_S1x1) (shapeCast S1x1 l1 shapeCasts_S1_S1x1)
    (shapeCast S1x1 l2 shapeCasts_S1_S1x1) bend

section point

variable (x0 : Vec F S2x126x40 .f32) (x1 : Vec F S40x960 .f32) (x2 : Vec F S1x960 .f32) (x3 : Vec F S128x64 .f32)
  (x4 : Vec F S1x64 .f32) (x5 : Vec F S128x32 .f32) (x6 : Vec F S1x32 .f32) (x7 : Vec F S192x64 .f32)
  (x8 : Vec F S1x64 .f32) (x9 : Vec F S192x32 .f32) (x10 : Vec F S1x32 .f32) (x11 : Vec F S256x64 .f32)
  (x12 : Vec F S1x64 .f32) (x13 : Vec F S256x32 .f32) (x14 : Vec F S1x32 .f32) (x15 : Vec F S320x64 .f32)
  (x16 : Vec F S1x64 .f32) (x17 : Vec F S320x32 .f32) (x18 : Vec F S1x32 .f32) (x19 : Vec F S3x504x32 .f32)
  (x20 : Vec F S1x3 .f32)

/-- One logit of one graph, from the graph's nodes and the rows of the final weights that belong to it. -/
def lg (xg : Vec F S1x126x40 .f32) (w0 w1 w2 w3 : Vec F S1x126x32 .f32) : FVec F S1 .f32 :=
  logit (out0 xg x1 x2 x3 x4 x5 x6) (out1 xg x1 x2 x7 x8 x9 x10) (out2 xg x1 x2 x11 x12 x13 x14)
    (out3 xg x1 x2 x15 x16 x17 x18) w0 w1 w2 w3

/-- The three logits of one graph. -/
def graph (xg : Vec F S1x126x40 .f32) : FVec F S1x3 .f32 :=
  logits
    (lg x1 x2 x3 x4 x5 x6 x7 x8 x9 x10 x11 x12 x13 x14 x15 x16 x17 x18 xg (View.ld x19 r0_13) (View.ld x19 r0_16)
      (View.ld x19 r0_19) (View.ld x19 r0_22))
    (lg x1 x2 x3 x4 x5 x6 x7 x8 x9 x10 x11 x12 x13 x14 x15 x16 x17 x18 xg (View.ld x19 r0_14) (View.ld x19 r0_17)
      (View.ld x19 r0_20) (View.ld x19 r0_23))
    (lg x1 x2 x3 x4 x5 x6 x7 x8 x9 x10 x11 x12 x13 x14 x15 x16 x17 x18 xg (View.ld x19 r0_15) (View.ld x19 r0_18)
      (View.ld x19 r0_21) (View.ld x19 r0_24)) x20

/-- The softmax of three logits. -/
def soft (v : FVec F S1x3 .f32) : FVec F S1x3 .f32 :=
  let e : FVec F S1x3 .f32 := exp (subf v (broadcastTo S1x3 (shapeCast S1x1 (multiReduction .maximumf [1] S1 v 0xFF800000#32
    reduces_S1x3_S1 (.inl rfl) rfl) shapeCasts_S1_S1x1) broadcasts_S1x1_S1x3))
  divf e (broadcastTo S1x3 (shapeCast S1x1 (multiReduction .add [1] S1 e 0x00000000#32 reduces_S1x3_S1 (.inl rfl) rfl)
    shapeCasts_S1_S1x1) broadcasts_S1x1_S1x3)

/-- What a point stores in the logits' buffer: the logits of its two graphs. -/
theorem out21_eq : out0_21 x0 x1 x2 x3 x4 x5 x6 x7 x8 x9 x10 x11 x12 x13 x14 x15 x16 x17 x18 x19 x20
    = View.canon [⟨r0_28, shapeCast S1x1x3 (graph (View.ld x1 r0_1) (View.ld x2 r0_2) (View.ld x3 r0_3) (View.ld x4 r0_4)
          (View.ld x5 r0_5) (View.ld x6 r0_12) (View.ld x7 r0_6) (View.ld x8 r0_4) (View.ld x9 r0_7) (View.ld x10 r0_12)
          (View.ld x11 r0_8) (View.ld x12 r0_4) (View.ld x13 r0_9) (View.ld x14 r0_12) (View.ld x15 r0_10)
          (View.ld x16 r0_4) (View.ld x17 r0_11) (View.ld x18 r0_12) x19 (View.ld x20 r0_25) (View.ld x0 r0_27))
          shapeCasts_S1x3_S1x1x3⟩,
        ⟨r0_26, shapeCast S1x1x3 (graph (View.ld x1 r0_1) (View.ld x2 r0_2) (View.ld x3 r0_3) (View.ld x4 r0_4)
          (View.ld x5 r0_5) (View.ld x6 r0_12) (View.ld x7 r0_6) (View.ld x8 r0_4) (View.ld x9 r0_7) (View.ld x10 r0_12)
          (View.ld x11 r0_8) (View.ld x12 r0_4) (View.ld x13 r0_9) (View.ld x14 r0_12) (View.ld x15 r0_10)
          (View.ld x16 r0_4) (View.ld x17 r0_11) (View.ld x18 r0_12) x19 (View.ld x20 r0_25) (View.ld x0 r0_0))
          shapeCasts_S1x3_S1x1x3⟩] := rfl

/-- What a point stores in the probabilities' buffer: the softmax of the logits of its two graphs. -/
theorem out22_eq : out0_22 x0 x1 x2 x3 x4 x5 x6 x7 x8 x9 x10 x11 x12 x13 x14 x15 x16 x17 x18 x19 x20
    = View.canon [⟨r0_28, shapeCast S1x1x3 (soft (graph (View.ld x1 r0_1) (View.ld x2 r0_2) (View.ld x3 r0_3)
          (View.ld x4 r0_4)
          (View.ld x5 r0_5) (View.ld x6 r0_12) (View.ld x7 r0_6) (View.ld x8 r0_4) (View.ld x9 r0_7) (View.ld x10 r0_12)
          (View.ld x11 r0_8) (View.ld x12 r0_4) (View.ld x13 r0_9) (View.ld x14 r0_12) (View.ld x15 r0_10)
          (View.ld x16 r0_4) (View.ld x17 r0_11) (View.ld x18 r0_12) x19 (View.ld x20 r0_25) (View.ld x0 r0_27)))
          shapeCasts_S1x3_S1x1x3⟩,
        ⟨r0_26, shapeCast S1x1x3 (soft (graph (View.ld x1 r0_1) (View.ld x2 r0_2) (View.ld x3 r0_3) (View.ld x4 r0_4)
          (View.ld x5 r0_5) (View.ld x6 r0_12) (View.ld x7 r0_6) (View.ld x8 r0_4) (View.ld x9 r0_7) (View.ld x10 r0_12)
          (View.ld x11 r0_8) (View.ld x12 r0_4) (View.ld x13 r0_9) (View.ld x14 r0_12) (View.ld x15 r0_10)
          (View.ld x16 r0_4) (View.ld x17 r0_11) (View.ld x18 r0_12) x19 (View.ld x20 r0_25) (View.ld x0 r0_0)))
          shapeCasts_S1x3_S1x1x3⟩] := rfl

end point

end Cert.KernelIdeal.Block
-- ==== Proof.Choose.lean ====
module

public import Idealize.ShloMosaic.Lib.SortFacts
public import Idealize.ShloMosaic.PureOps.Ideal

/-! # The largest entries of a column

Two ways of choosing the largest `k` of finitely many different extended reals, both stated by an entry's rank (how
many entries exceed it): rounds that lower the maximum to -1, and the first positions of a stable sort. -/

@[expose] public section

noncomputable section

namespace Cert.Choose

open Idealize.ShloMosaic

variable {n : ℕ}

/-- How many entries exceed entry `i`. -/
def rank (f : Fin n → EReal) (i : Fin n) : ℕ := (Finset.univ.filter fun j => f i < f j).card

/-- A greater entry has a smaller rank. -/
theorem rank_lt {f : Fin n → EReal} {i j : Fin n} (h : f i < f j) : rank f j < rank f i := by
  refine Finset.card_lt_card ⟨fun l hl => ?_, fun hs => ?_⟩
  · simp only [Finset.mem_filter, Finset.mem_univ, true_and] at hl ⊢
    exact h.trans hl
  · have := hs (Finset.mem_filter.mpr ⟨Finset.mem_univ j, h⟩)
    simp at this

/-- Ranks are unchanged when the entries keep their order. -/
theorem rank_congr {f g : Fin n → EReal} (h : ∀ i j, f i < f j ↔ g i < g j) (i : Fin n) : rank f i = rank g i := by
  unfold rank
  congr 1
  ext j
  simp [h]

/-- The maximum of the entries, from the least extended real. -/
def top (v : Fin n → EReal) : EReal := Finset.univ.fold max ⊥ v

theorem le_top (v : Fin n → EReal) (i : Fin n) : v i ≤ top v :=
  (Finset.le_fold_max (b := (⊥ : EReal)) (f := v) (s := Finset.univ) (v i)).mpr (Or.inr ⟨i, Finset.mem_univ i, le_refl _⟩)

theorem top_eq {v : Fin n → EReal} {i : Fin n} (h : ∀ j, v j ≤ v i) : top v = v i :=
  le_antisymm ((Finset.fold_max_le (b := (⊥ : EReal)) (f := v) (s := Finset.univ) (v i)).mpr ⟨bot_le, fun j _ => h j⟩) (le_top v i)

/-- One round: the entries equal to the maximum become -1. -/
def round (v : Fin n → EReal) : Fin n → EReal := fun i => if v i = top v then -1 else v i

/-- After `t` rounds over different nonnegative entries, exactly the entries of rank below `t` are -1. -/
theorem rounds_eq {f : Fin n → EReal} (hinj : Function.Injective f) (hpos : ∀ i, 0 ≤ f i) (t : ℕ) (i : Fin n) :
    (round^[t] f) i = if rank f i < t then -1 else f i := by
  induction t generalizing i with
  | zero => simp
  | succ t ih =>
    rw [Function.iterate_succ_apply']
    have hneg : ∀ j, (-1 : EReal) < f j := fun j => lt_of_lt_of_le (by norm_num [EReal.neg_lt_comm]) (hpos j)
    generalize hg : round^[t] f = g at ih
    have hlo : ∀ j, rank f j < t → g j = -1 := fun j h => by rw [ih, if_pos h]
    have hhi : ∀ j, ¬ rank f j < t → g j = f j := fun j h => by rw [ih, if_neg h]
    show (if g i = top g then (-1 : EReal) else g i) = _
    by_cases h1 : rank f i < t
    · simp only [hlo i h1, ite_self, if_pos (Nat.lt_succ_of_lt h1)]
    · by_cases h2 : rank f i = t
      · have : g i = top g := by
          refine (top_eq fun j => ?_).symm
          rw [hhi i h1]
          by_cases h3 : rank f j < t
          · rw [hlo j h3]; exact (hneg i).le
          · rw [hhi j h3]
            by_contra h4
            have := rank_lt (not_le.mp h4)
            omega
        rw [if_pos this, if_pos (by omega)]
      · have hne : (Finset.univ.filter fun j => f i < f j).Nonempty := Finset.card_pos.mp (by
          have : rank f i = (Finset.univ.filter fun j => f i < f j).card := rfl
          omega)
        obtain ⟨j, hj, hmin⟩ := Finset.exists_min_image _ f hne
        have hij : f i < f j := (Finset.mem_filter.mp hj).2
        have hr : rank f i ≤ rank f j + 1 := by
          unfold rank
          rw [← Finset.card_erase_add_one hj]
          refine Nat.add_le_add_right (Finset.card_le_card fun l hl => ?_) 1
          obtain ⟨hlj, hl⟩ := Finset.mem_erase.mp hl
          refine Finset.mem_filter.mpr ⟨Finset.mem_univ l, lt_of_le_of_ne (hmin l hl) fun e => hlj (hinj e).symm⟩
        have hle := le_top g j
        rw [hhi j (by omega)] at hle
        have : ¬ g i = top g := by
          rw [hhi i h1]
          exact ne_of_lt (hij.trans_le hle)
        rw [if_neg this, if_neg (by omega : ¬ rank f i < t + 1), hhi i h1]

/-- The sort that puts the greater entry first. -/
def before (f : Fin n → EReal) : Fin n → Fin n → Bool := fun a b => decide (f b < f a)

/-- The entry the sort puts at place `s` has rank `s`. -/
theorem rank_sortedFrom {f : Fin n → EReal} (hinj : Function.Injective f) (s : Fin n) :
    rank f (sortedFrom (before f) s) = s.val := by
  have hσ := sortedFrom_injective (before f)
  have hsur := sortedFrom_surjective (before f)
  have hord : ∀ i j : Fin n, i < j → f (sortedFrom (before f) j) < f (sortedFrom (before f) i) := fun i j hij => by
    have := sortedFrom_noInversion (before f) (before f)
      (fun a b h => by simp only [before, decide_eq_true_eq, decide_eq_false_iff_not] at h ⊢; exact not_lt.mpr h.le)
      (fun a b h => h)
      (fun a b c h1 h2 => by
        simp only [before, decide_eq_false_iff_not, not_lt] at h1 h2 ⊢; exact h1.trans h2) i j hij
    simp only [before, decide_eq_false_iff_not, not_lt] at this
    exact lt_of_le_of_ne this fun e => absurd (hσ (hinj e)) (ne_of_gt hij)
  have : (Finset.univ.filter fun j => f (sortedFrom (before f) s) < f j)
      = (Finset.univ.filter fun t : Fin n => t < s).image (sortedFrom (before f)) := by
    ext j
    obtain ⟨t, rfl⟩ := hsur j
    simp only [Finset.mem_filter, Finset.mem_univ, true_and, Finset.mem_image]
    constructor
    · intro h
      refine ⟨t, ?_, rfl⟩
      by_contra hts
      rcases lt_or_eq_of_le (not_lt.mp hts) with h' | h'
      · exact absurd h (not_lt.mpr (hord _ _ h').le)
      · rw [h'] at h; exact absurd h (lt_irrefl _)
    · rintro ⟨t', h, e⟩
      rw [← hσ e]
      exact hord _ _ h
  unfold rank
  rw [this, Finset.card_image_of_injective _ hσ]
  have : (Finset.univ.filter fun t : Fin n => t < s) = Finset.Iio s := by ext; simp
  rw [this, Fin.card_Iio]

/-- An entry is among the sort's first `k` exactly when its rank is below `k`. -/
theorem mem_first {f : Fin n → EReal} (hinj : Function.Injective f) (k : ℕ) (j : Fin n) :
    (∃ s : Fin n, s.val < k ∧ sortedFrom (before f) s = j) ↔ rank f j < k := by
  constructor
  · rintro ⟨s, hs, rfl⟩
    rw [rank_sortedFrom hinj]; exact hs
  · intro h
    obtain ⟨s, rfl⟩ := sortedFrom_surjective (before f) j
    exact ⟨s, by rwa [rank_sortedFrom hinj] at h, rfl⟩

end Cert.Choose
-- ==== Proof.Spec.lean ====
module

public import proofs.«01_k».proof.Proof.Choose

/-! # A branch over the extended reals

What one branch of one graph computes from its scores, its transformed features and its bias: the softmax of every
row, cut to the row's twenty largest scores, with ones on the diagonal, normalized by the inverse square roots of the
row sums on both sides, applied to the features. -/

@[expose] public section

noncomputable section

namespace Cert.Spec

open Idealize.ShloMosaic Cert.Choose

/-- The softmax of finitely many entries. -/
def soft {n : ℕ} (r : Fin n → EReal) (i : Fin n) : EReal :=
  Ideal.div (Ideal.exp (r i - top r)) (∑ k, Ideal.exp (r k - top r))

/-- The propagation matrix: row `i` keeps the softmax of its twenty largest scores; the diagonal is one. -/
def prop (R : Fin 126 → Fin 126 → EReal) (i j : Fin 126) : EReal :=
  if i = j then 1 else if rank (R i) j < 20 then soft (R i) j else 0

/-- The inverse square root of a row's sum, the sum taken to be at least one. -/
def dinv (R : Fin 126 → Fin 126 → EReal) (i : Fin 126) : EReal :=
  Ideal.rsqrt (max (∑ j, prop R i j) 1)

/-- The branch's output at node `i` and channel `o`. -/
def out (R : Fin 126 → Fin 126 → EReal) (h : Fin 126 → Fin 32 → EReal) (b : Fin 32 → EReal) (i : Fin 126) (o : Fin 32) :
    EReal :=
  max ((∑ k, dinv R i * prop R i k * dinv R k * h k o) + b o) 0

/-- A finite sum of reals, read as an extended real. -/
theorem coe_sum {ι : Type} (u : Finset ι) (a : ι → ℝ) : ((∑ k ∈ u, a k : ℝ) : EReal) = ∑ k ∈ u, (a k : EReal) := by
  classical
  induction u using Finset.cons_induction with
  | empty => simp
  | cons k u h ih => rw [Finset.sum_cons, Finset.sum_cons, EReal.coe_add, ih]

/-- The softmax of reals is a nonnegative real, and keeps their order. -/
theorem soft_real {n : ℕ} (r : Fin n → EReal) (a : Fin n → ℝ) (hr : ∀ k, r k = (a k : EReal)) :
    ∃ s : Fin n → ℝ, (∀ i, soft r i = (s i : EReal)) ∧ (∀ i, 0 ≤ s i) ∧ ∀ i j, s i < s j ↔ a i < a j := by
  obtain rfl : r = fun k => (a k : EReal) := funext hr
  rcases n with _ | n
  · exact ⟨fun i => i.elim0, fun i => i.elim0, fun i => i.elim0, fun i => i.elim0⟩
  obtain ⟨m, hm⟩ := Finite.exists_max a
  have ht : top (fun k => (a k : EReal)) = (a m : EReal) := top_eq fun j => EReal.coe_le_coe_iff.mpr (hm j)
  have he : ∀ k, Ideal.exp ((a k : EReal) - (a m : EReal)) = ((Real.exp (a k - a m) : ℝ) : EReal) := fun k => by
    rw [← EReal.coe_sub, Ideal.exp_coe]
  have hpos : 0 < ∑ k, Real.exp (a k - a m) := Finset.sum_pos (fun k _ => Real.exp_pos _) ⟨m, Finset.mem_univ m⟩
  refine ⟨fun i => Real.exp (a i - a m) * (1 / ∑ k, Real.exp (a k - a m)), fun i => ?_, fun i => by positivity, fun i j => ?_⟩
  · unfold soft
    simp only [ht, he]
    rw [← coe_sum, Ideal.div_coe hpos.ne', EReal.coe_mul]
  · rw [mul_lt_mul_iff_left₀ (by positivity), Real.exp_lt_exp, sub_lt_sub_iff_right]

section real

variable (R : Fin 126 → Fin 126 → EReal) (a : Fin 126 → Fin 126 → ℝ) (hR : ∀ i k, R i k = (a i k : EReal))

include hR in
/-- Of real scores, the softmax has the same ranks. -/
theorem rank_soft (i j : Fin 126) : rank (soft (R i)) j = rank (R i) j := by
  obtain ⟨s, hs, -, hlt⟩ := soft_real (R i) (a i) (hR i)
  refine rank_congr (fun k l => ?_) j
  rw [hs, hs, hR, hR, EReal.coe_lt_coe_iff, EReal.coe_lt_coe_iff, hlt]

include hR in
/-- Of different real scores, the softmax has different entries. -/
theorem soft_injective (hinj : ∀ i, Function.Injective (R i)) (i : Fin 126) : Function.Injective (soft (R i)) := by
  obtain ⟨s, hs, -, hlt⟩ := soft_real (R i) (a i) (hR i)
  intro k l e
  rw [hs, hs, EReal.coe_eq_coe_iff] at e
  refine hinj i ?_
  rw [hR, hR, EReal.coe_eq_coe_iff]
  exact le_antisymm (not_lt.mp fun h => (((hlt l k).mpr h).ne e.symm)) (not_lt.mp fun h => (((hlt k l).mpr h).ne e))

include hR in
/-- Of real scores, the power -1/2 of a row's sum is its inverse square root. -/
theorem dinv_pow (i : Fin 126) : Ideal.pow (max (∑ j, prop R i j) 1) ((-1/2 : ℝ) : EReal) = dinv R i := by
  obtain ⟨s, hs, -, -⟩ := soft_real (R i) (a i) (hR i)
  have hp : ∀ j, prop R i j = ((if i = j then 1 else if rank (R i) j < 20 then s j else 0 : ℝ) : EReal) := fun j => by
    unfold prop
    rw [hs]
    split_ifs <;> simp
  unfold dinv
  simp only [hp]
  rw [← coe_sum, ← EReal.coe_one, ← EReal.coe_strictMono.monotone.map_max]
  generalize (∑ j : Fin 126, if i = j then (1 : ℝ) else if rank (R i) j < 20 then s j else 0) = t
  have h1 : (1 : ℝ) ≤ max t 1 := le_max_right _ _
  rw [Ideal.pow_coe_coe, Ideal.rsqrt_coe, if_neg (by linarith), if_neg (by linarith)]
  congr 1
  show (max t 1) ^ (-1/2 : ℝ) = _
  rw [show (-1/2 : ℝ) = -(1/2) by norm_num, Real.rpow_neg (by linarith), Real.sqrt_eq_rpow]

end real

section logits

/-- A sum over the flattened branches: over the channels, branch by branch. -/
theorem sum_flat (g : Fin 16128 → EReal) : ∑ a, g a = ∑ o : Fin 32, ((∑ j : Fin 126, g ⟨j.val * 32 + o.val, by omega⟩)
    + (∑ j : Fin 126, g ⟨(126 + j.val) * 32 + o.val, by omega⟩) + (∑ j : Fin 126, g ⟨(252 + j.val) * 32 + o.val, by omega⟩)
    + (∑ j : Fin 126, g ⟨(378 + j.val) * 32 + o.val, by omega⟩)) := by
  rw [← (finProdFinEquiv (m := 504) (n := 32)).sum_comp, Fintype.sum_prod_type, Finset.sum_comm]
  refine Finset.sum_congr rfl fun o _ => ?_
  rw [Fin.sum_univ_add (a := 378) (b := 126), Fin.sum_univ_add (a := 252) (b := 126), Fin.sum_univ_add (a := 126) (b := 126)]
  congr 1
  · congr 1
    · congr 1
      all_goals exact Finset.sum_congr rfl fun j _ => congrArg g (Fin.ext (by simp [finProdFinEquiv]; omega))
    · exact Finset.sum_congr rfl fun j _ => congrArg g (Fin.ext (by simp [finProdFinEquiv]; omega))
  · exact Finset.sum_congr rfl fun j _ => congrArg g (Fin.ext (by simp [finProdFinEquiv]; omega))

/-- A logit: the four branches' outputs, flattened, against a column of the last weights, with its bias. -/
def logit (o0 o1 o2 o3 : Fin 126 → Fin 32 → EReal) (w : Fin 16128 → EReal) (b : EReal) : EReal :=
  (∑ o : Fin 32, ((∑ j : Fin 126, o0 j o * w ⟨j.val * 32 + o.val, by omega⟩)
    + (∑ j : Fin 126, o1 j o * w ⟨(126 + j.val) * 32 + o.val, by omega⟩)
    + (∑ j : Fin 126, o2 j o * w ⟨(252 + j.val) * 32 + o.val, by omega⟩)
    + (∑ j : Fin 126, o3 j o * w ⟨(378 + j.val) * 32 + o.val, by omega⟩))) + b

end logits

section feat

variable {kw wd : ℕ} (hk : kw + wd = 11)

/-- A feature: a window of `kw` columns of the four rows, weighted, with a bias, and the negative part cut. -/
def feat (x : Fin 4 → Fin 10 → EReal) (W : Fin 32 → Fin 4 → Fin kw → EReal) (b : Fin 32 → EReal) (o : Fin 32) (w : Fin wd) :
    EReal := max ((∑ k : Fin kw, ∑ r, x r ⟨k.val + w.val, by omega⟩ * W o r k) + b o) 0

/-- The windowed sum as a sum against a column that is zero outside the window. -/
theorem sum_window (x : Fin 40 → EReal) (a : Fin 40 → EReal) (W : Fin 4 → Fin kw → EReal) (w : Fin wd)
    (ha : ∀ k : Fin 40, a k = if h : w.val ≤ k.val % 10 ∧ k.val % 10 < w.val + kw
      then W ⟨k.val / 10, by omega⟩ ⟨k.val % 10 - w.val, by omega⟩ else 0) :
    ∑ k, x k * a k
      = ∑ k : Fin kw, ∑ r : Fin 4, x ⟨r.val * 10 + (k.val + w.val), by omega⟩ * W r k := by
  rw [← (finProdFinEquiv (m := 4) (n := 10)).sum_comp, Fintype.sum_prod_type, Finset.sum_comm (s := (Finset.univ : Finset (Fin kw)))]
  refine Finset.sum_congr rfl fun r _ => ?_
  have he : ∀ f : Fin 10, (finProdFinEquiv (m := 4) (n := 10) (r, f)).val = f.val + 10 * r.val := fun f => rfl
  symm
  refine Finset.sum_of_injOn (fun k : Fin kw => (⟨w.val + k.val, by omega⟩ : Fin 10)) (fun k _ l _ e => ?_) (fun _ _ => by simp)
    (fun f _ hf => ?_) fun k _ => ?_
  · have := Fin.ext_iff.mp e
    exact Fin.ext (by simp only at this; omega)
  · rw [ha, dif_neg, mul_zero]
    rintro ⟨h1, h2⟩
    rw [he] at h1 h2
    exact hf ⟨⟨f.val - w.val, by omega⟩, by simp, Fin.ext (by simp only; omega)⟩
  · rw [ha, dif_pos (by rw [he]; simp only; omega)]
    congr 2
    · exact Fin.ext (by rw [he]; simp only; omega)
    · exact Fin.ext (by simp only [he]; omega)
    · exact Fin.ext (by simp only [he]; omega)

end feat

section branch

variable {w : ℕ} (f : Fin 126 → Fin w → EReal) (wbn : Fin w → Fin 64 → EReal) (bbn : Fin 64 → EReal)

/-- The bottleneck features: the hyperbolic tangent of an affine map of the features. -/
def neck (i : Fin 126) (k : Fin 64) : EReal := Ideal.tanh ((∑ q, f i q * wbn q k) + bbn k)

/-- The score of two nodes: the inner product of their bottleneck features. -/
def score (i j : Fin 126) : EReal := ∑ k, neck f wbn bbn i k * neck f wbn bbn j k

/-- Scores are symmetric. -/
theorem score_comm (i j : Fin 126) : score f wbn bbn i j = score f wbn bbn j i :=
  Finset.sum_congr rfl fun _ _ => mul_comm _ _

/-- The hyperbolic tangent of an extended real is a real between -1 and 1. -/
theorem tanh_real (x : EReal) : ∃ t : ℝ, Ideal.tanh x = (t : EReal) ∧ |t| ≤ 1 := by
  induction x with
  | bot => exact ⟨-1, by simp, by simp⟩
  | top => exact ⟨1, by simp, by simp⟩
  | coe r => exact ⟨Real.tanh r, rfl, (Real.abs_tanh_lt_one r).le⟩

/-- A score is a real between -64 and 64. -/
theorem score_real (i j : Fin 126) : ∃ r : ℝ, score f wbn bbn i j = (r : EReal) ∧ |r| ≤ 64 := by
  choose t ht hb using fun (i : Fin 126) (k : Fin 64) => tanh_real ((∑ q, f i q * wbn q k) + bbn k)
  refine ⟨∑ k, t i k * t j k, ?_, ?_⟩
  · unfold score neck
    rw [coe_sum]
    exact Finset.sum_congr rfl fun k _ => by rw [ht, ht, EReal.coe_mul]
  · refine (Finset.abs_sum_le_sum_abs _ _).trans ?_
    refine (Finset.sum_le_card_nsmul _ _ 1 fun k _ => ?_).trans (by simp)
    rw [abs_mul]
    exact mul_le_one₀ (hb i k) (abs_nonneg _) (hb j k)

/-- The branch's output from its features and weights. -/
def branch (wg : Fin w → Fin 32 → EReal) (bg : Fin 32 → EReal) (i : Fin 126) (o : Fin 32) : EReal :=
  out (score f wbn bbn) (fun k o => ∑ q, f k q * wg q o) bg i o

/-- No node has two equal scores. -/
def NoTie : Prop := ∀ i, Function.Injective (score f wbn bbn i)

end branch

end Cert.Spec
-- ==== Proof.BlockAt.lean ====
module

public import proofs.«01_k».proof.Proof.Block
public import proofs.«01_k».proof.Proof.Spec
public import Idealize.ShloMosaic.Lib.Pointwise

/-! # The block's functions at an index, over the extended reals -/

@[expose] public section

set_option maxRecDepth 16384

noncomputable section

namespace Cert.KernelIdeal.Block

open Idealize.ShloMosaic Cert.KernelIdeal Cert.KernelIdeal.Gen Cert.Choose

/-- The word of negative infinity is the least extended real. -/
theorem ofBits_ninf : Ideal.ofBits .f32 0xFF800000#32 = ⊥ := by
  simp [Ideal.ofBits, Ideal.ieee]

/-- The word of -1 is -1. -/
theorem ofBits_neg_one : Ideal.ofBits .f32 0xBF800000#32 = -1 := by
  simp [Ideal.ofBits, Ideal.ieee]
  rw [← EReal.coe_mul]; norm_num

/-- The word of 128 is 128. -/
theorem ofBits_128 : Ideal.ofBits .f32 0x43000000#32 = ((128 : ℝ) : EReal) := by
  simp [Ideal.ofBits, Ideal.ieee]
  rw [← EReal.coe_mul]; norm_num

/-- A round at an index: the column's maximum becomes -1. -/
theorem step_apply (v : FVec Ideal S126x126 .f32) (i j : Fin 126) :
    step v (ix2 i j) = Choose.round (fun k => v (ix2 k j)) i := by
  unfold Choose.round top
  pointwise [step, ofBits_ninf, ofBits_neg_one]

/-- The rounds at an index. -/
theorem steps_apply (n : ℕ) (v : FVec Ideal S126x126 .f32) (i j : Fin 126) :
    steps n v (ix2 i j) = (Choose.round^[n] fun k => v (ix2 k j)) i := by
  induction n generalizing i with
  | zero => rfl
  | succ n ih =>
    rw [Function.iterate_succ_apply', steps, step_apply]
    exact congrFun (congrArg Choose.round (funext ih)) i

/-- The key at an index. -/
theorem key_apply (v : FVec Ideal S126x126 .f32) (i j : Fin 126) :
    key v (ix2 i j) = v (ix2 i j) + ((128 : ℝ) : EReal) := by
  pointwise [key, ofBits_128]

/-- The mask at an index: of a column of different reals, none below -128, the entries of rank below 20. -/
theorem mask_apply (v : FVec Ideal S126x126 .f32) (j : Fin 126) (r : Fin 126 → ℝ) (hr : ∀ k, v (ix2 k j) = (r k : EReal))
    (hb : ∀ k, -128 ≤ r k) (hinj : Function.Injective r) (i : Fin 126) :
    mask v (ix2 i j) = BitVec.ofBool (decide (rank (fun k => v (ix2 k j)) i < 20)) := by
  have hk : (fun k => key v (ix2 k j)) = fun k => ((r k + 128 : ℝ) : EReal) := funext fun k => by
    rw [key_apply, hr, EReal.coe_add]
  have hrank : ∀ k, rank (fun k => ((r k + 128 : ℝ) : EReal)) k = rank (fun k => v (ix2 k j)) k := fun k => by
    refine rank_congr (fun a b => ?_) k
    rw [hr, hr, EReal.coe_lt_coe_iff, EReal.coe_lt_coe_iff]
    constructor <;> intro h <;> linarith
  have hpos : ∀ k, (0 : EReal) ≤ ((r k + 128 : ℝ) : EReal) := fun k => by
    rw [← EReal.coe_zero, EReal.coe_le_coe_iff]; linarith [hb k]
  have hstep : steps 20 (key v) (ix2 i j)
      = if rank (fun k => v (ix2 k j)) i < 20 then (-1 : EReal) else ((r i + 128 : ℝ) : EReal) := by
    rw [steps_apply, hk, rounds_eq (fun a b h => hinj (by
      have := EReal.coe_eq_coe_iff.mp h; linarith)) hpos, hrank]
  have : mask v (ix2 i j) = BitVec.ofBool (decide (steps 20 (key v) (ix2 i j) < 0)) := by
    pointwise [mask]
  rw [this]
  refine congrArg BitVec.ofBool (decide_eq_decide.mpr ?_)
  rw [hstep]
  split
  · rename_i h
    exact ⟨fun _ => h, fun _ => by norm_num⟩
  · rename_i h
    exact ⟨fun h' => absurd h' (not_lt.mpr (hpos i)), fun h' => absurd h' h⟩

/-- A column's sum at an index. -/
theorem colSum_apply (v : FVec Ideal S126x126 .f32) (i : Fin 1) (j : Fin 126) :
    colSum v (ix2 i j) = ∑ k : Fin 126, v (ix2 k j) := by
  pointwise [colSum]

/-- An exponential at an index. -/
theorem expo_apply (v : FVec Ideal S126x126 .f32) (i j : Fin 126) :
    expo v (ix2 i j) = Ideal.exp (v (ix2 i j) - top (fun k => v (ix2 k j))) := by
  unfold top
  pointwise [expo, ofBits_ninf]

/-- The diagonal at an index. -/
theorem eye_apply (i j : Fin 126) : k0_pay4 (ix2 i j) = BitVec.ofBool (decide (i = j)) := by
  pointwise [k0_pay4]
  rw [WordCmp.cmpi_eq_ofNat (by omega) (by omega)]
  simp [Fin.ext_iff]

/-- The propagation matrix at an index: the specification's, of the columns of the scores. -/
theorem prob_apply (v : FVec Ideal S126x126 .f32) (j : Fin 126) (r : Fin 126 → ℝ) (hr : ∀ k, v (ix2 k j) = (r k : EReal))
    (hb : ∀ k, -128 ≤ r k) (hinj : Function.Injective r) (i : Fin 126) :
    prob v (mask v) (ix2 i j) = Spec.prop (fun a b => v (ix2 b a)) j i := by
  have h : prob v (mask v) (ix2 i j) = if i = j then 1 else Scalar.select (mask v (ix2 i j))
      (Ideal.div (expo v (ix2 i j)) (∑ k : Fin 126, expo v (ix2 k j))) 0 := by
    pointwise [prob, colSum_apply, eye_apply]
  rw [h, mask_apply v j r hr hb hinj i]
  unfold Spec.prop Spec.soft
  simp only [expo_apply, Scalar.select, eq_comm (a := i) (b := j)]
  split
  · rfl
  · by_cases h : rank (fun k => v (ix2 k j)) i < 20
    · simp [h]
    · simp [h]

/-- The inverse square roots at an index. -/
theorem dinv_apply (p : FVec Ideal S126x126 .f32) (i : Fin 1) (j : Fin 126) :
    dinv p (ix2 i j) = Ideal.rsqrt (max (∑ k : Fin 126, p (ix2 k j)) 1) := by
  pointwise [dinv, colSum_apply]

/-- The branch's output at an index, from its propagation matrix. -/
theorem conv_apply (p : FVec Ideal S126x126 .f32) (h : FVec Ideal S126x32 .f32) (bg : Vec Ideal S1x32 .f32) (j : Fin 126)
    (o : Fin 32) : conv p h bg (ix2 j o) = max ((∑ k : Fin 126, p (ix2 k j) * dinv p (ix2 0 j)
      * (h (ix2 k o) * (∑ b : Fin 126, k0_pay5 (F := Ideal) (ix2 k b) * dinv p (ix2 0 b)))) + bg (ix2 0 o)) 0 := by
  pointwise [conv, rows32]

/-- The diagonal of ones at an index. -/
theorem eyef_apply (i j : Fin 126) : k0_pay5 (F := Ideal) (ix2 i j) = if i = j then 1 else 0 := by
  pointwise [k0_pay5, eye_apply]

/-- The branch's output at an index: the specification's, of the columns of the scores. -/
theorem out_apply (v : FVec Ideal S126x126 .f32) (r : Fin 126 → Fin 126 → ℝ)
    (hr : ∀ j k, v (ix2 k j) = (r j k : EReal)) (hb : ∀ j k, -128 ≤ r j k) (hinj : ∀ j, Function.Injective (r j))
    (h : FVec Ideal S126x32 .f32) (bg : Vec Ideal S1x32 .f32) (j : Fin 126) (o : Fin 32) :
    out v h bg (ix2 j o)
      = Spec.out (fun a b => v (ix2 b a)) (fun k o => h (ix2 k o)) (fun o => bg (ix2 0 o)) j o := by
  have hp : ∀ i j, prob v (mask v) (ix2 i j) = Spec.prop (fun a b => v (ix2 b a)) j i := fun i j =>
    prob_apply v j (r j) (hr j) (hb j) (hinj j) i
  have hd : ∀ (i : Fin 1) j, dinv (prob v (mask v)) (ix2 i j) = Spec.dinv (fun a b => v (ix2 b a)) j := fun i j => by
    rw [dinv_apply]
    simp only [hp]
    rfl
  unfold out Spec.out
  rw [conv_apply]
  simp only [hp, hd, eyef_apply, ite_mul, one_mul, zero_mul, Finset.sum_ite_eq, Finset.mem_univ, if_true]
  congr 2
  refine Finset.sum_congr rfl fun k _ => ?_
  rw [mul_comm (h (ix2 k o)), ← mul_assoc, mul_comm (Spec.prop _ j k)]

/-- The scores at an index. -/
theorem score_apply (z : FVec Ideal S126x64 .f32) (b : Vec Ideal S1x64 .f32) (i j : Fin 126) :
    score z b (ix2 i j) = ∑ k : Fin 64, Ideal.tanh (z (ix2 i k) + b (ix2 0 k)) * Ideal.tanh (z (ix2 j k) + b (ix2 0 k)) := by
  pointwise [score]

/-- The features at an index. -/
theorem feat_apply (xg : Vec Ideal S1x126x40 .f32) (A : Vec Ideal S40x960 .f32) (bf : Vec Ideal S1x960 .f32) (i : Fin 126)
    (q : Fin 960) : feat xg A bf (ix2 i q) = max ((∑ k : Fin 40, xg (ix3 0 i k) * A (ix2 k q)) + bf (ix2 0 q)) 0 := by
  pointwise [feat, k0_pay6]

/-- The branch's output, once its scores and transformed features are read off the features. -/
theorem out_branch {w : ℕ} (f : Fin 126 → Fin w → EReal) (wbn : Fin w → Fin 64 → EReal) (wg : Fin w → Fin 32 → EReal)
    (z : FVec Ideal S126x64 .f32) (b : Vec Ideal S1x64 .f32) (h : FVec Ideal S126x32 .f32) (bg : Vec Ideal S1x32 .f32)
    (hz : ∀ i k, z (ix2 i k) = ∑ q, f i q * wbn q k) (hh : ∀ i o, h (ix2 i o) = ∑ q, f i q * wg q o)
    (hn : Spec.NoTie f wbn fun k => b (ix2 0 k)) (j : Fin 126) (o : Fin 32) :
    out (score z b) h bg (ix2 j o)
      = Spec.branch f wbn (fun k => b (ix2 0 k)) wg (fun o => bg (ix2 0 o)) j o := by
  have hs : ∀ i j, score z b (ix2 i j) = Spec.score f wbn (fun k => b (ix2 0 k)) i j := fun i j => by
    rw [score_apply]
    simp only [hz]
    rfl
  choose r hr hb using Spec.score_real f wbn fun k => b (ix2 0 k)
  rw [out_apply (score z b) r (fun j k => by rw [hs, Spec.score_comm, hr])
    (fun j k => by have := (abs_le.mp (hb j k)).1; linarith)
    (fun j k l e => hn j (by rw [hr, hr, e]))]
  unfold Spec.branch
  simp only [hh, hs]
  congr 1
  exact funext fun a => funext fun b' => Spec.score_comm _ _ _ _ _

section graph

variable (xg : Vec Ideal S1x126x40 .f32) (A : Vec Ideal S40x960 .f32) (bf : Vec Ideal S1x960 .f32)

/-- The first branch's output at an index. -/
theorem out0_apply (wbn : Vec Ideal S128x64 .f32) (b : Vec Ideal S1x64 .f32) (wg : Vec Ideal S128x32 .f32)
    (bg : Vec Ideal S1x32 .f32) (f : Fin 126 → Fin 128 → EReal)
    (hf : ∀ i q, f i q = feat xg A bf (ix2 i ⟨0 + q.val, by omega⟩))
    (hn : Spec.NoTie f (fun q k => wbn (ix2 q k)) fun k => b (ix2 0 k)) (j : Fin 126) (o : Fin 32) :
    out0 xg A bf wbn b wg bg (ix2 j o) = Spec.branch f (fun q k => wbn (ix2 q k)) (fun k => b (ix2 0 k))
      (fun q o => wg (ix2 q o)) (fun o => bg (ix2 0 o)) j o := by
  refine out_branch f _ _ _ b _ bg (fun i k => ?_) (fun i k => ?_) hn j o <;> simp only [hf] <;> pointwise

/-- The second branch's output at an index. -/
theorem out1_apply (wbn : Vec Ideal S192x64 .f32) (b : Vec Ideal S1x64 .f32) (wg : Vec Ideal S192x32 .f32)
    (bg : Vec Ideal S1x32 .f32) (f : Fin 126 → Fin 192 → EReal)
    (hf : ∀ i q, f i q = feat xg A bf (ix2 i ⟨128 + q.val, by omega⟩))
    (hn : Spec.NoTie f (fun q k => wbn (ix2 q k)) fun k => b (ix2 0 k)) (j : Fin 126) (o : Fin 32) :
    out1 xg A bf wbn b wg bg (ix2 j o) = Spec.branch f (fun q k => wbn (ix2 q k)) (fun k => b (ix2 0 k))
      (fun q o => wg (ix2 q o)) (fun o => bg (ix2 0 o)) j o := by
  refine out_branch f _ _ _ b _ bg (fun i k => ?_) (fun i k => ?_) hn j o <;> simp only [hf] <;> pointwise

/-- The third branch's output at an index. -/
theorem out2_apply (wbn : Vec Ideal S256x64 .f32) (b : Vec Ideal S1x64 .f32) (wg : Vec Ideal S256x32 .f32)
    (bg : Vec Ideal S1x32 .f32) (f : Fin 126 → Fin 256 → EReal)
    (hf : ∀ i q, f i q = feat xg A bf (ix2 i ⟨384 + q.val, by omega⟩))
    (hn : Spec.NoTie f (fun q k => wbn (ix2 q k)) fun k => b (ix2 0 k)) (j : Fin 126) (o : Fin 32) :
    out2 xg A bf wbn b wg bg (ix2 j o) = Spec.branch f (fun q k => wbn (ix2 q k)) (fun k => b (ix2 0 k))
      (fun q o => wg (ix2 q o)) (fun o => bg (ix2 0 o)) j o := by
  refine out_branch f _ _ _ b _ bg (fun i k => ?_) (fun i k => ?_) hn j o <;> simp only [hf] <;> pointwise

/-- The fourth branch's output at an index. -/
theorem out3_apply (wbn : Vec Ideal S320x64 .f32) (b : Vec Ideal S1x64 .f32) (wg : Vec Ideal S320x32 .f32)
    (bg : Vec Ideal S1x32 .f32) (f : Fin 126 → Fin 320 → EReal)
    (hf : ∀ i q, f i q = feat xg A bf (ix2 i ⟨640 + q.val, by omega⟩))
    (hn : Spec.NoTie f (fun q k => wbn (ix2 q k)) fun k => b (ix2 0 k)) (j : Fin 126) (o : Fin 32) :
    out3 xg A bf wbn b wg bg (ix2 j o) = Spec.branch f (fun q k => wbn (ix2 q k)) (fun k => b (ix2 0 k))
      (fun q o => wg (ix2 q o)) (fun o => bg (ix2 0 o)) j o := by
  refine out_branch f _ _ _ b _ bg (fun i k => ?_) (fun i k => ?_) hn j o <;> simp only [hf] <;> pointwise

end graph

/-- A logit from the four outputs and their weights. -/
theorem logit_apply (o0 o1 o2 o3 : FVec Ideal S126x32 .f32) (w0 w1 w2 w3 : Vec Ideal S1x126x32 .f32) (i : Fin 1) :
    logit o0 o1 o2 o3 w0 w1 w2 w3 (ix1 i) = ∑ o : Fin 32, ((∑ j : Fin 126, o0 (ix2 j o) * w0 (ix3 0 j o))
      + (∑ j : Fin 126, o1 (ix2 j o) * w1 (ix3 0 j o)) + (∑ j : Fin 126, o2 (ix2 j o) * w2 (ix3 0 j o))
      + (∑ j : Fin 126, o3 (ix2 j o) * w3 (ix3 0 j o))) := by
  pointwise [logit, acc, zero32]

/-- The three logits at an index. -/
theorem logits_apply (l0 l1 l2 : FVec Ideal S1 .f32) (bend : Vec Ideal S1x3 .f32) (i : Fin 1) (t : Fin 3) :
    logits l0 l1 l2 bend (ix2 i t) = ![l0 (ix1 0), l1 (ix1 0), l2 (ix1 0)] t + bend (ix2 0 t) := by
  obtain rfl : i = 0 := Subsingleton.elim _ _
  pointwise [logits, k0_pay1]
  fin_cases t <;> rfl

/-- The softmax of the logits at an index. -/
theorem soft_apply (v : FVec Ideal S1x3 .f32) (i : Fin 1) (t : Fin 3) :
    soft v (ix2 i t) = Spec.soft (fun t => v (ix2 0 t)) t := by
  obtain rfl : i = 0 := Subsingleton.elim _ _
  unfold Spec.soft top
  pointwise [soft, ofBits_ninf]

end Cert.KernelIdeal.Block
-- ==== Proof.HostAt.lean ====
/- The matrix of the four convolutions at an index. -/
module

public import proofs.«01_k».proof.Proof.Host
public import proofs.«01_k».proof.Proof.BlockAt
public import Idealize.ShloMosaic.Lib.Pointwise

@[expose] public section

set_option maxRecDepth 16384

noncomputable section

namespace Cert.KernelIdeal.Host

open Cert.KernelIdeal Cert.KernelIdeal.Gen Idealize.ShloMosaic

/-- A start at an index. -/
theorem pair_apply (n : BitVec 32) (i : Fin 2) : pair n (ix1 i) = n := by
  pointwise [pair, join]
  try simp

/-- A chain of placements fills the columns one after another. -/
theorem placed_upto {kw wd : ℕ} (h : ScatterDims.WF ⟨4, ![4, 10, 32, wd]⟩ ⟨1, ![2]⟩ ⟨3, ![4, kw, 32]⟩ [0, 1, 2] [3] [1, 3] 0)
    (x : Vec Ideal ⟨4, ![4, 10, 32, wd]⟩ .f32) (hx : ∀ i, x i = 0) (u : Vec Ideal ⟨3, ![4, kw, 32]⟩ .f32) (n : ℕ) (hn : n < 2 ^ 31) :
    Place.Upto u (placed (Place.dims kw wd h) x u n) n := by
  induction n with
  | zero =>
    intro r f o w
    rw [dif_neg (by omega)]
    exact hx _
  | succ n ih =>
    have e : (BitVec.ofNat 32 n).toInt = n := by
      rw [BitVec.toInt_eq_toNat_cond, BitVec.toNat_ofNat, Nat.mod_eq_of_lt (by omega), if_pos (by omega)]
    exact (ih (by omega)).set h _ (by rw [pair_apply, e]) (by rw [pair_apply, e])

/-- The first convolution's columns at an index. -/
theorem cols0_apply (W : Vec Ideal S32x1x4x7 .f32) (r : Fin 4) (f : Fin 10) (o : Fin 32) (w : Fin 4) :
    cols0 W (ix4 r f o w) = if h : w.val ≤ f.val ∧ f.val < w.val + 7 then W (ix4 o 0 r ⟨f.val - w.val, by omega⟩) else 0 := by
  refine (placed_upto scatter_S4x10x32x4_S2_S4x7x32_012_3_13_0_wf _ (fun i => by pointwise) _ 4 (by norm_num) r f o w).trans ?_
  simp only [w.isLt, true_and]
  pointwise

/-- The second convolution's columns at an index. -/
theorem cols1_apply (W : Vec Ideal S32x1x4x5 .f32) (r : Fin 4) (f : Fin 10) (o : Fin 32) (w : Fin 6) :
    cols1 W (ix4 r f o w) = if h : w.val ≤ f.val ∧ f.val < w.val + 5 then W (ix4 o 0 r ⟨f.val - w.val, by omega⟩) else 0 := by
  refine (placed_upto scatter_S4x10x32x6_S2_S4x5x32_012_3_13_0_wf _ (fun i => by pointwise) _ 6 (by norm_num) r f o w).trans ?_
  simp only [w.isLt, true_and]
  pointwise

/-- The third convolution's columns at an index. -/
theorem cols2_apply (W : Vec Ideal S32x1x4x3 .f32) (r : Fin 4) (f : Fin 10) (o : Fin 32) (w : Fin 8) :
    cols2 W (ix4 r f o w) = if h : w.val ≤ f.val ∧ f.val < w.val + 3 then W (ix4 o 0 r ⟨f.val - w.val, by omega⟩) else 0 := by
  refine (placed_upto scatter_S4x10x32x8_S2_S4x3x32_012_3_13_0_wf _ (fun i => by pointwise) _ 8 (by norm_num) r f o w).trans ?_
  simp only [w.isLt, true_and]
  pointwise

/-- The fourth convolution's columns at an index. -/
theorem cols3_apply (W : Vec Ideal S32x1x4x1 .f32) (r : Fin 4) (f : Fin 10) (o : Fin 32) (w : Fin 10) :
    cols3 W (ix4 r f o w) = if h : w.val ≤ f.val ∧ f.val < w.val + 1 then W (ix4 o 0 r ⟨f.val - w.val, by omega⟩) else 0 := by
  refine (placed_upto scatter_S4x10x32x10_S2_S4x1x32_012_3_13_0_wf _ (fun i => by pointwise) _ 10 (by norm_num) r f o w).trans ?_
  simp only [w.isLt, true_and]
  pointwise
  exact dite_congr rfl (fun h => congrArg (fun t => W (ix4 o 0 r t)) (Subsingleton.elim _ _)) fun _ => rfl

section matrix

variable (W0 : Vec Ideal S32x1x4x7 .f32) (W1 : Vec Ideal S32x1x4x5 .f32) (W2 : Vec Ideal S32x1x4x3 .f32)
  (W3 : Vec Ideal S32x1x4x1 .f32) (b0 b1 b2 b3 : Vec Ideal S32 .f32)

/-- The first block of the matrix at an index. -/
theorem amat0_apply (k : Fin 40) (q : Fin 128) : amat W0 W1 W2 W3 (ix2 k ⟨0 + q.val, by omega⟩)
    = cols0 W0 (ix4 ⟨k.val / 10, by omega⟩ ⟨k.val % 10, by omega⟩ ⟨q.val / 4, by omega⟩ ⟨q.val % 4, by omega⟩) := by
  pointwise [amat, beside]

/-- The first block of the bias row at an index. -/
theorem brow0_apply (i : Fin 1) (q : Fin 128) :
    brow b0 b1 b2 b3 (ix2 i ⟨0 + q.val, by omega⟩) = b0 (ix1 ⟨q.val / 4, by omega⟩) := by
  pointwise [brow, after5]

/-- The kernel's features in the first block are the first convolution's. -/
theorem feat0_apply (xg : Vec Ideal S1x126x40 .f32) (i : Fin 126) (q : Fin 128) :
    Block.feat xg (amat W0 W1 W2 W3) (brow b0 b1 b2 b3) (ix2 i ⟨0 + q.val, by omega⟩)
      = Spec.feat (by norm_num : 7 + 4 = 11) (fun r f => xg (ix3 0 i ⟨r.val * 10 + f.val, by omega⟩))
        (fun o r k => W0 (ix4 o 0 r k)) (fun o => b0 (ix1 o)) ⟨q.val / 4, by omega⟩ ⟨q.val % 4, by omega⟩ := by
  rw [Block.feat_apply, brow0_apply]
  unfold Spec.feat
  rw [Spec.sum_window (by norm_num : 7 + 4 = 11) (fun k => xg (ix3 0 i k)) (fun k => amat W0 W1 W2 W3 (ix2 k ⟨0 + q.val, by omega⟩))
    (fun r k => W0 (ix4 ⟨q.val / 4, by omega⟩ 0 r k)) ⟨q.val % 4, by omega⟩ fun k => by rw [amat0_apply, cols0_apply]]

/-- The second block of the matrix at an index. -/
theorem amat1_apply (k : Fin 40) (q : Fin 192) : amat W0 W1 W2 W3 (ix2 k ⟨128 + q.val, by omega⟩)
    = cols1 W1 (ix4 ⟨k.val / 10, by omega⟩ ⟨k.val % 10, by omega⟩ ⟨q.val / 6, by omega⟩ ⟨q.val % 6, by omega⟩) := by
  pointwise [amat, beside]

/-- The second block of the bias row at an index. -/
theorem brow1_apply (i : Fin 1) (q : Fin 192) :
    brow b0 b1 b2 b3 (ix2 i ⟨128 + q.val, by omega⟩) = b1 (ix1 ⟨q.val / 6, by omega⟩) := by
  pointwise [brow, after5]

/-- The kernel's features in the second block are the second convolution's. -/
theorem feat1_apply (xg : Vec Ideal S1x126x40 .f32) (i : Fin 126) (q : Fin 192) :
    Block.feat xg (amat W0 W1 W2 W3) (brow b0 b1 b2 b3) (ix2 i ⟨128 + q.val, by omega⟩)
      = Spec.feat (by norm_num : 5 + 6 = 11) (fun r f => xg (ix3 0 i ⟨r.val * 10 + f.val, by omega⟩))
        (fun o r k => W1 (ix4 o 0 r k)) (fun o => b1 (ix1 o)) ⟨q.val / 6, by omega⟩ ⟨q.val % 6, by omega⟩ := by
  rw [Block.feat_apply, brow1_apply]
  unfold Spec.feat
  rw [Spec.sum_window (by norm_num : 5 + 6 = 11) (fun k => xg (ix3 0 i k)) (fun k => amat W0 W1 W2 W3 (ix2 k ⟨128 + q.val, by omega⟩))
    (fun r k => W1 (ix4 ⟨q.val / 6, by omega⟩ 0 r k)) ⟨q.val % 6, by omega⟩ fun k => by rw [amat1_apply, cols1_apply]]

/-- The third block of the matrix at an index. -/
theorem amat2_apply (k : Fin 40) (q : Fin 256) : amat W0 W1 W2 W3 (ix2 k ⟨384 + q.val, by omega⟩)
    = cols2 W2 (ix4 ⟨k.val / 10, by omega⟩ ⟨k.val % 10, by omega⟩ ⟨q.val / 8, by omega⟩ ⟨q.val % 8, by omega⟩) := by
  pointwise [amat, beside]
  rw [dif_neg (by omega), dif_neg (by omega), dif_neg (by omega), dif_pos (by omega)]
  have e : 384 + q.val - 128 - 192 - 64 = q.val := by omega
  simp only [e]

/-- The third block of the bias row at an index. -/
theorem brow2_apply (i : Fin 1) (q : Fin 256) :
    brow b0 b1 b2 b3 (ix2 i ⟨384 + q.val, by omega⟩) = b2 (ix1 ⟨q.val / 8, by omega⟩) := by
  pointwise [brow, after5]
  rw [dif_neg (by omega), dif_neg (by omega), dif_neg (by omega), dif_pos (by omega)]
  have e : 384 + q.val - 128 - 192 - 64 = q.val := by omega
  simp only [e]

/-- The kernel's features in the third block are the third convolution's. -/
theorem feat2_apply (xg : Vec Ideal S1x126x40 .f32) (i : Fin 126) (q : Fin 256) :
    Block.feat xg (amat W0 W1 W2 W3) (brow b0 b1 b2 b3) (ix2 i ⟨384 + q.val, by omega⟩)
      = Spec.feat (by norm_num : 3 + 8 = 11) (fun r f => xg (ix3 0 i ⟨r.val * 10 + f.val, by omega⟩))
        (fun o r k => W2 (ix4 o 0 r k)) (fun o => b2 (ix1 o)) ⟨q.val / 8, by omega⟩ ⟨q.val % 8, by omega⟩ := by
  rw [Block.feat_apply, brow2_apply]
  unfold Spec.feat
  rw [Spec.sum_window (by norm_num : 3 + 8 = 11) (fun k => xg (ix3 0 i k)) (fun k => amat W0 W1 W2 W3 (ix2 k ⟨384 + q.val, by omega⟩))
    (fun r k => W2 (ix4 ⟨q.val / 8, by omega⟩ 0 r k)) ⟨q.val % 8, by omega⟩ fun k => by rw [amat2_apply, cols2_apply]]

/-- The fourth block of the matrix at an index. -/
theorem amat3_apply (k : Fin 40) (q : Fin 320) : amat W0 W1 W2 W3 (ix2 k ⟨640 + q.val, by omega⟩)
    = cols3 W3 (ix4 ⟨k.val / 10, by omega⟩ ⟨k.val % 10, by omega⟩ ⟨q.val / 10, by omega⟩ ⟨q.val % 10, by omega⟩) := by
  pointwise [amat, beside]
  rw [dif_neg (by omega), dif_neg (by omega), dif_neg (by omega), dif_neg (by omega)]
  have e : 640 + q.val - 128 - 192 - 64 - 256 = q.val := by omega
  simp only [e]

/-- The fourth block of the bias row at an index. -/
theorem brow3_apply (i : Fin 1) (q : Fin 320) :
    brow b0 b1 b2 b3 (ix2 i ⟨640 + q.val, by omega⟩) = b3 (ix1 ⟨q.val / 10, by omega⟩) := by
  pointwise [brow, after5]
  rw [dif_neg (by omega), dif_neg (by omega), dif_neg (by omega), dif_neg (by omega)]
  have e : 640 + q.val - 128 - 192 - 64 - 256 = q.val := by omega
  simp only [e]

/-- The kernel's features in the fourth block are the fourth convolution's. -/
theorem feat3_apply (xg : Vec Ideal S1x126x40 .f32) (i : Fin 126) (q : Fin 320) :
    Block.feat xg (amat W0 W1 W2 W3) (brow b0 b1 b2 b3) (ix2 i ⟨640 + q.val, by omega⟩)
      = Spec.feat (by norm_num : 1 + 10 = 11) (fun r f => xg (ix3 0 i ⟨r.val * 10 + f.val, by omega⟩))
        (fun o r k => W3 (ix4 o 0 r k)) (fun o => b3 (ix1 o)) ⟨q.val / 10, by omega⟩ ⟨q.val % 10, by omega⟩ := by
  rw [Block.feat_apply, brow3_apply]
  unfold Spec.feat
  rw [Spec.sum_window (by norm_num : 1 + 10 = 11) (fun k => xg (ix3 0 i k)) (fun k => amat W0 W1 W2 W3 (ix2 k ⟨640 + q.val, by omega⟩))
    (fun r k => W3 (ix4 ⟨q.val / 10, by omega⟩ 0 r k)) ⟨q.val % 10, by omega⟩ fun k => by rw [amat3_apply, cols3_apply]]

end matrix

end Cert.KernelIdeal.Host

end
-- ==== Proof.Ref.lean ====
module

public import proofs.«01_k».proof.Proof.Gen.ReferenceIdeal.Run
public import proofs.«01_k».proof.Proof.Spec
public import Idealize.ShloMosaic.Lib.Pointwise

/-! # The reference's operations, branch by branch -/

@[expose] public section

set_option maxRecDepth 16384

noncomputable section

namespace Cert.ReferenceIdeal.Branch

open Cert.ReferenceIdeal Cert.ReferenceIdeal.Gen Idealize.ShloMosaic

/-- The rows' maxima. -/
def rowMax (v : FVec Ideal S1024x126x126 .f32) : FVec Ideal S1024x126 .f32 :=
  Host.reduce FloatOps.maximumf v (constant S_ .f32 0xFF800000#32) reducesTo_S1024x126x126_S1024x126_d2 h_S_

/-- The exponentials of the scores less their row's given maximum. -/
def expoOf (v : FVec Ideal S1024x126x126 .f32) (t : FVec Ideal S1024x126 .f32) : FVec Ideal S1024x126x126 .f32 :=
  Host.exp (subf v (broadcastInDim S1024x126x126 ![0, 1, 2] bcast_S1024x126x1_S1024x126x126_0_1_2 (broadcastInDim S1024x126x1 ![0, 1] bcast_S1024x126_S1024x126x1_0_1 (maximumf (broadcastInDim S1024x126 ![] bcast_S_S1024x126 (constant S_ .f32 0xFF800000#32)) t))))

/-- The exponentials of the scores less their row's maximum. -/
def expo (v : FVec Ideal S1024x126x126 .f32) : FVec Ideal S1024x126x126 .f32 := expoOf v (rowMax v)

/-- The exponentials divided by their row's sum. -/
def prob (e : FVec Ideal S1024x126x126 .f32) : FVec Ideal S1024x126x126 .f32 :=
  Host.divf e (broadcastInDim S1024x126x126 ![0, 1, 2] bcast_S1024x126x1_S1024x126x126_0_1_2 (broadcastInDim S1024x126x1 ![0, 1] bcast_S1024x126_S1024x126x1_0_1 (Host.reduceAdd e (constant S_ .f32 0x00000000#32) reducesTo_S1024x126x126_S1024x126_d2 h_S_)))

/-- The places of the twenty largest entries of every row. -/
def first (p : FVec Ideal S1024x126x126 .f32) : IVec S1024x126x20 32 :=
  (Host.topK S1024x126x20 2 (FloatOps.cmpfTotal .gt) p sliceFits_S1024x126x126_S1024x126x20).2

/-- Whether a column is among the listed places. -/
def listed (t : IVec S1024x126x20 32) : IVec S1024x126x126 1 :=
  Host.reduce IntOp.ori (cmpi .eq (broadcastInDim S1024x126x20x126 ![0, 1, 2, 3] bcast_S1024x126x20x1_S1024x126x20x126_0_1_2_3 (broadcastInDim S1024x126x20x1 ![0, 1, 2] bcast_S1024x126x20_S1024x126x20x1_0_1_2 t)) (broadcastInDim S1024x126x20x126 ![0, 1, 2, 3] bcast_S1x1x1x126_S1024x126x20x126_0_1_2_3 (broadcastInDim S1x1x1x126 ![3] bcast_S126_S1x1x1x126_3 (iotaInDim S126 32 0)))) (constantI S_ 1 0#1) reducesTo_S1024x126x20x126_S1024x126x126_d2 h_S_

/-- The propagation matrix: the probabilities at the listed places, ones on the diagonal. -/
def adj (p : FVec Ideal S1024x126x126 .f32) (l : IVec S1024x126x126 1) : FVec Ideal S1024x126x126 .f32 :=
  select (broadcastInDim S1024x126x126 ![0, 1, 2] bcast_S1x126x126_S1024x126x126_0_1_2 (broadcastInDim S1x126x126 ![1, 2] bcast_S126x126_S1x126x126_1_2 (cmpi .eq (addi (iotaInDim S126x126 32 0) (broadcastInDim S126x126 ![] bcast_S_S126x126 (constantI S_ 32 0#32))) (iotaInDim S126x126 32 1)))) (broadcastInDim S1024x126x126 ![] bcast_S_S1024x126x126 (id (constant S_ .f32 0x3F800000#32))) (select l p (broadcastInDim S1024x126x126 ![] bcast_S_S1024x126x126 (id (constant S_ .f32 0x00000000#32))))

/-- The rows' sums, at least one, to the power -1/2. -/
def power (a : FVec Ideal S1024x126x126 .f32) : FVec Ideal S1024x126 .f32 :=
  Host.powf (maximumf (Host.reduceAdd a (constant S_ .f32 0x00000000#32) reducesTo_S1024x126x126_S1024x126_d2 h_S_) (broadcastInDim S1024x126 ![] bcast_S_S1024x126 (constant S_ .f32 0x3F800000#32))) (broadcastInDim S1024x126 ![] bcast_S_S1024x126 (constant S_ .f32 0xBF000000#32))

/-- The branch's output from its propagation matrix, the powers, the transformed features and the bias. -/
def conv (a : FVec Ideal S1024x126x126 .f32) (d : FVec Ideal S1024x126 .f32) (h : FVec Ideal S1024x126x32 .f32) (bg : Vec Ideal S32 .f32) :
    FVec Ideal S1024x126x32 .f32 :=
  maximumf (addf (Host.dotGeneral dot_S1024x126x126_S1024x126x32_S1024x126x32_2_1_1_2_0_0 none (mulf (mulf (broadcastInDim S1024x126x126 ![0, 1, 2] bcast_S1024x126x1_S1024x126x126_0_1_2 (broadcastInDim S1024x126x1 ![0, 1] bcast_S1024x126_S1024x126x1_0_1 d)) a) (broadcastInDim S1024x126x126 ![0, 1, 2] bcast_S1024x1x126_S1024x126x126_0_1_2 (broadcastInDim S1024x1x126 ![0, 2] bcast_S1024x126_S1024x1x126_0_2 d))) h) (broadcastInDim S1024x126x32 ![0, 1, 2] bcast_S1x1x32_S1024x126x32_0_1_2 (broadcastInDim S1x1x32 ![2] bcast_S32_S1x1x32_2 bg))) (broadcastInDim S1024x126x32 ![] bcast_S_S1024x126x32 (constant S_ .f32 0x00000000#32))

/-- The bottleneck features from their linear part and the bias. -/
def neck (z : FVec Ideal S1024x126x64 .f32) (b : Vec Ideal S64 .f32) : FVec Ideal S1024x126x64 .f32 :=
  Host.tanh (addf z (broadcastInDim S1024x126x64 ![0, 1, 2] bcast_S1x1x64_S1024x126x64_0_1_2 (broadcastInDim S1x1x64 ![2] bcast_S64_S1x1x64_2 b)))

/-- The scores. -/
def score (t : FVec Ideal S1024x126x64 .f32) : FVec Ideal S1024x126x126 .f32 :=
  Host.dotGeneral dot_S1024x126x64_S1024x64x126_S1024x126x126_2_1_1_2_0_0 none t (transpose S1024x64x126 [0, 2, 1] t transposes_S1024x126x64_S1024x64x126_0_2_1)

/-- The branch's output from its scores. -/
def out (v : FVec Ideal S1024x126x126 .f32) (h : FVec Ideal S1024x126x32 .f32) (bg : Vec Ideal S32 .f32) : FVec Ideal S1024x126x32 .f32 :=
  conv (adj (prob (expo v)) (listed (first (prob (expo v))))) (power (adj (prob (expo v)) (listed (first (prob (expo v)))))) h bg

/-- The four branches under each other. -/
def under (o0 o1 o2 o3 : FVec Ideal S1024x126x32 .f32) : FVec Ideal S1024x504x32 .f32 :=
  concatenate S1024x504x32 1 [⟨S1024x126x32, o0⟩, ⟨S1024x126x32, o1⟩, ⟨S1024x126x32, o2⟩, ⟨S1024x126x32, o3⟩] concatenates_S1024x126x32_S1024x126x32_S1024x126x32_S1024x126x32_S1024x504x32_d1

/-- The logits: the flattened branches against the last weights, with the last bias. -/
def logits (x : FVec Ideal S1024x504x32 .f32) (w : FVec Ideal S16128x3 .f32) (b : FVec Ideal S3 .f32) : FVec Ideal S1024x3 .f32 :=
  addf (Host.dotGeneral (φ₁ := .f32) (φ₂ := .f32) dot_S1024x16128_S16128x3_S1024x3_1_0_0_1_n_n none (shapeCast _ x shapeCasts_S1024x504x32_S1024x16128) w) (broadcastInDim S1024x3 ![0, 1] bcast_S1x3_S1024x3_0_1 (broadcastInDim S1x3 ![1] bcast_S3_S1x3_1 b))

/-- The first branch's features into the bottleneck. -/
def down0 (f : FVec Ideal S1024x126x128 .f32) (W : Vec Ideal S128x64 .f32) : FVec Ideal S1024x126x64 .f32 :=
  Host.dotGeneral (φ₁ := .f32) (φ₂ := .f32) dot_S1024x126x128_S128x64_S1024x126x64_2_0_01_1_n_n none f W

/-- The first branch's transformed features. -/
def lin0 (f : FVec Ideal S1024x126x128 .f32) (W : Vec Ideal S128x32 .f32) : FVec Ideal S1024x126x32 .f32 :=
  Host.dotGeneral (φ₁ := .f32) (φ₂ := .f32) dot_S1024x126x128_S128x32_S1024x126x32_2_0_01_1_n_n none f W

/-- The second branch's features into the bottleneck. -/
def down1 (f : FVec Ideal S1024x126x192 .f32) (W : Vec Ideal S192x64 .f32) : FVec Ideal S1024x126x64 .f32 :=
  Host.dotGeneral (φ₁ := .f32) (φ₂ := .f32) dot_S1024x126x192_S192x64_S1024x126x64_2_0_01_1_n_n none f W

/-- The second branch's transformed features. -/
def lin1 (f : FVec Ideal S1024x126x192 .f32) (W : Vec Ideal S192x32 .f32) : FVec Ideal S1024x126x32 .f32 :=
  Host.dotGeneral (φ₁ := .f32) (φ₂ := .f32) dot_S1024x126x192_S192x32_S1024x126x32_2_0_01_1_n_n none f W

/-- The third branch's features into the bottleneck. -/
def down2 (f : FVec Ideal S1024x126x256 .f32) (W : Vec Ideal S256x64 .f32) : FVec Ideal S1024x126x64 .f32 :=
  Host.dotGeneral (φ₁ := .f32) (φ₂ := .f32) dot_S1024x126x256_S256x64_S1024x126x64_2_0_01_1_n_n none f W

/-- The third branch's transformed features. -/
def lin2 (f : FVec Ideal S1024x126x256 .f32) (W : Vec Ideal S256x32 .f32) : FVec Ideal S1024x126x32 .f32 :=
  Host.dotGeneral (φ₁ := .f32) (φ₂ := .f32) dot_S1024x126x256_S256x32_S1024x126x32_2_0_01_1_n_n none f W

/-- The fourth branch's features into the bottleneck. -/
def down3 (f : FVec Ideal S1024x126x320 .f32) (W : Vec Ideal S320x64 .f32) : FVec Ideal S1024x126x64 .f32 :=
  Host.dotGeneral (φ₁ := .f32) (φ₂ := .f32) dot_S1024x126x320_S320x64_S1024x126x64_2_0_01_1_n_n none f W

/-- The fourth branch's transformed features. -/
def lin3 (f : FVec Ideal S1024x126x320 .f32) (W : Vec Ideal S320x32 .f32) : FVec Ideal S1024x126x32 .f32 :=
  Host.dotGeneral (φ₁ := .f32) (φ₂ := .f32) dot_S1024x126x320_S320x32_S1024x126x32_2_0_01_1_n_n none f W

variable (V0 : Valuation τ sig (Elt Ideal))

/-- The first branch's scores. -/
theorem score0_eq : Value.res_main_v49 V0
    = score (neck (down0 (Value.res_main_v42 V0) (V0 (Proc.devRef .tc main_arg11))) (V0 (Proc.devRef .tc main_arg12))) := rfl

/-- The second branch's scores. -/
theorem score1_eq : Value.res_main_v132 V0
    = score (neck (down1 (Value.res_main_v125 V0) (V0 (Proc.devRef .tc main_arg15))) (V0 (Proc.devRef .tc main_arg16))) := rfl

/-- The third branch's scores. -/
theorem score2_eq : Value.res_main_v205 V0
    = score (neck (down2 (Value.res_main_v198 V0) (V0 (Proc.devRef .tc main_arg19))) (V0 (Proc.devRef .tc main_arg20))) := rfl

/-- The fourth branch's scores. -/
theorem score3_eq : Value.res_main_v266 V0
    = score (neck (down3 (Value.res_main_v259 V0) (V0 (Proc.devRef .tc main_arg23))) (V0 (Proc.devRef .tc main_arg24))) := rfl

/-- The logits. -/
theorem logits_eq : Value.res_main_v315 V0 = logits (under
    (out (Value.res_main_v49 V0) (lin0 (Value.res_main_v42 V0) (V0 (Proc.devRef .tc main_arg13))) (V0 (Proc.devRef .tc main_arg14)))
    (out (Value.res_main_v132 V0) (lin1 (Value.res_main_v125 V0) (V0 (Proc.devRef .tc main_arg17))) (V0 (Proc.devRef .tc main_arg18)))
    (out (Value.res_main_v205 V0) (lin2 (Value.res_main_v198 V0) (V0 (Proc.devRef .tc main_arg21))) (V0 (Proc.devRef .tc main_arg22)))
    (out (Value.res_main_v266 V0) (lin3 (Value.res_main_v259 V0) (V0 (Proc.devRef .tc main_arg25))) (V0 (Proc.devRef .tc main_arg26)))) (V0 (Proc.devRef .tc main_arg27)) (V0 (Proc.devRef .tc main_arg28)) := rfl

end Cert.ReferenceIdeal.Branch
-- ==== Proof.RefFeat.lean ====
module

public import proofs.«01_k».proof.Proof.Ref
public import proofs.«01_k».proof.Proof.BlockAt
public import Idealize.ShloMosaic.Lib.Routing.OpsOrder

/-! # The reference's features at an index -/

@[expose] public section

set_option maxRecDepth 16384

noncomputable section

namespace Cert.ReferenceIdeal.Branch

open Cert.ReferenceIdeal Cert.ReferenceIdeal.Gen Idealize.ShloMosaic Cert.Choose

variable (V0 : Valuation τ sig (Elt Ideal))

/-- The first branch's features are the first convolution's. -/
theorem feat0_apply (n : Fin 1024) (i : Fin 126) (q : Fin 128) : Value.res_main_v42 V0 (ix3 n i q)
    = Spec.feat (by norm_num : 7 + 4 = 11) (fun r f => V0 (Proc.devRef .tc main_arg0) (ix2 ⟨n.val * 126 + i.val, by omega⟩ ⟨r.val * 10 + f.val, by omega⟩))
      (fun o r k => V0 (Proc.devRef .tc main_arg3) (ix4 o 0 r k)) (fun o => V0 (Proc.devRef .tc main_arg4) (ix1 o))
      ⟨q.val / 4, by omega⟩ ⟨q.val % 4, by omega⟩ := by
  unfold Spec.feat
  rw [Fin.sum_univ_seven]
  pointwise [Value.res_main_v42, Value.res_main_v0]

/-- The second branch's features are the second convolution's. -/
theorem feat1_apply (n : Fin 1024) (i : Fin 126) (q : Fin 192) : Value.res_main_v125 V0 (ix3 n i q)
    = Spec.feat (by norm_num : 5 + 6 = 11) (fun r f => V0 (Proc.devRef .tc main_arg0) (ix2 ⟨n.val * 126 + i.val, by omega⟩ ⟨r.val * 10 + f.val, by omega⟩))
      (fun o r k => V0 (Proc.devRef .tc main_arg5) (ix4 o 0 r k)) (fun o => V0 (Proc.devRef .tc main_arg6) (ix1 o))
      ⟨q.val / 6, by omega⟩ ⟨q.val % 6, by omega⟩ := by
  unfold Spec.feat
  rw [Fin.sum_univ_five]
  pointwise [Value.res_main_v125, Value.res_main_v93]

/-- The third branch's features are the third convolution's. -/
theorem feat2_apply (n : Fin 1024) (i : Fin 126) (q : Fin 256) : Value.res_main_v198 V0 (ix3 n i q)
    = Spec.feat (by norm_num : 3 + 8 = 11) (fun r f => V0 (Proc.devRef .tc main_arg0) (ix2 ⟨n.val * 126 + i.val, by omega⟩ ⟨r.val * 10 + f.val, by omega⟩))
      (fun o r k => V0 (Proc.devRef .tc main_arg7) (ix4 o 0 r k)) (fun o => V0 (Proc.devRef .tc main_arg8) (ix1 o))
      ⟨q.val / 8, by omega⟩ ⟨q.val % 8, by omega⟩ := by
  unfold Spec.feat
  rw [Fin.sum_univ_three]
  pointwise [Value.res_main_v198, Value.res_main_v176]

/-- The fourth branch's features are the fourth convolution's. -/
theorem feat3_apply (n : Fin 1024) (i : Fin 126) (q : Fin 320) : Value.res_main_v259 V0 (ix3 n i q)
    = Spec.feat (by norm_num : 1 + 10 = 11) (fun r f => V0 (Proc.devRef .tc main_arg0) (ix2 ⟨n.val * 126 + i.val, by omega⟩ ⟨r.val * 10 + f.val, by omega⟩))
      (fun o r k => V0 (Proc.devRef .tc main_arg9) (ix4 o 0 r k)) (fun o => V0 (Proc.devRef .tc main_arg10) (ix1 o))
      ⟨q.val / 10, by omega⟩ ⟨q.val % 10, by omega⟩ := by
  unfold Spec.feat
  rw [Fin.sum_univ_one]
  pointwise [Value.res_main_v259]

end Cert.ReferenceIdeal.Branch
-- ==== Proof.RefAt.lean ====
module

public import proofs.«01_k».proof.Proof.Ref
public import proofs.«01_k».proof.Proof.BlockAt
public import Idealize.ShloMosaic.Lib.Routing.OpsOrder

/-! # The reference's operations at an index -/

@[expose] public section

set_option maxRecDepth 16384

noncomputable section

namespace Cert.ReferenceIdeal.Branch

open Cert.ReferenceIdeal Cert.ReferenceIdeal.Gen Idealize.ShloMosaic Cert.Choose

/-- The bottleneck features at an index. -/
theorem neck_apply (z : FVec Ideal S1024x126x64 .f32) (b : Vec Ideal S64 .f32) (n : Fin 1024) (i : Fin 126) (k : Fin 64) :
    neck z b (ix3 n i k) = Ideal.tanh (z (ix3 n i k) + b (ix1 k)) := by
  pointwise [neck]

/-- The scores at an index. -/
theorem score_apply (t : FVec Ideal S1024x126x64 .f32) (n : Fin 1024) (i j : Fin 126) :
    score t (ix3 n i j) = ∑ k : Fin 64, t (ix3 n i k) * t (ix3 n j k) := by
  pointwise [score]

/-- The probabilities at an index. -/
theorem prob_apply (e : FVec Ideal S1024x126x126 .f32) (n : Fin 1024) (i j : Fin 126) :
    prob e (ix3 n i j) = Ideal.div (e (ix3 n i j)) (∑ k : Fin 126, e (ix3 n i k)) := by
  pointwise [prob]

/-- The rows' maxima at an index. -/
theorem rowMax_apply (v : FVec Ideal S1024x126x126 .f32) (n : Fin 1024) (i : Fin 126) :
    rowMax v (ix2 n i) = top (fun k => v (ix3 n i k)) := by
  unfold top
  pointwise [rowMax, KernelIdeal.Block.ofBits_ninf]

/-- The exponentials at an index, with the maxima given. -/
theorem expoOf_apply (v : FVec Ideal S1024x126x126 .f32) (t : FVec Ideal S1024x126 .f32) (n : Fin 1024) (i j : Fin 126) :
    expoOf v t (ix3 n i j) = Ideal.exp (v (ix3 n i j) - t (ix2 n i)) := by
  pointwise [expoOf, KernelIdeal.Block.ofBits_ninf]
  rw [max_eq_right bot_le]

/-- The exponentials at an index. -/
theorem expo_apply (v : FVec Ideal S1024x126x126 .f32) (n : Fin 1024) (i j : Fin 126) :
    expo v (ix3 n i j) = Ideal.exp (v (ix3 n i j) - top (fun k => v (ix3 n i k))) := by
  rw [expo, expoOf_apply, rowMax_apply]

/-- An index moved along the last axis. -/
theorem along_apply (n : Fin 1024) (i s k : Fin 126) : (ix3 n i s : S1024x126x126.Idx).along 2 k = ix3 n i k := by
  funext d
  fin_cases d <;> rfl

/-- The total order's greater-than over the extended reals. -/
theorem gt_eq (a b : EReal) : (FloatOps.cmpfTotal (F := Ideal) (φ := .f32) .gt a b == 1#1) = decide (b < a) := by
  show (BitVec.ofBool (decide (b < a)) == 1#1) = _
  by_cases h : b < a <;> simp [h]

/-- The comparison of a row's and a column's number. -/
theorem eye_apply (i j : Fin 126) : IntOp.cmpi .eq (IntOp.addi (BitVec.ofNat 32 i.val) 0#32) (BitVec.ofNat 32 j.val) = BitVec.ofBool (decide (i = j)) := by
  rw [show IntOp.addi (BitVec.ofNat 32 i.val) 0#32 = BitVec.ofNat 32 i.val from BitVec.add_zero _, WordCmp.cmpi_eq_ofNat (by omega) (by omega)]
  simp [Fin.ext_iff]

/-- The propagation matrix at an index. -/
theorem adj_apply (p : FVec Ideal S1024x126x126 .f32) (l : IVec S1024x126x126 1) (n : Fin 1024) (i j : Fin 126) :
    adj p l (ix3 n i j) = if i = j then 1 else if l (ix3 n i j) = 1#1 then p (ix3 n i j) else 0 := by
  pointwise [adj, eye_apply, id_eq]
  unfold Scalar.select
  by_cases h : i = j <;> simp [h]

/-- The word of -1/2 is -1/2. -/
theorem ofBits_neg_half : Ideal.ofBits .f32 0xBF000000#32 = ((-1/2 : ℝ) : EReal) := by
  simp [Ideal.ofBits, Ideal.ieee]
  rw [← EReal.coe_mul]; norm_num

/-- The powers at an index. -/
theorem power_apply (a : FVec Ideal S1024x126x126 .f32) (n : Fin 1024) (i : Fin 126) :
    power a (ix2 n i) = Ideal.pow (max (∑ k : Fin 126, a (ix3 n i k)) 1) ((-1/2 : ℝ) : EReal) := by
  pointwise [power, ofBits_neg_half]

/-- A column is listed when one of the row's twenty words is its number. -/
theorem listed_apply (t : IVec S1024x126x20 32) (n : Fin 1024) (i j : Fin 126) :
    listed t (ix3 n i j) = 1#1 ↔ ∃ s : Fin 20, t (ix3 n i s) = BitVec.ofNat 32 j.val := by
  pointwise [listed]
  rw [Routing.fold_ori]
  have hb : ∀ b : Bool, BitVec.ofBool b = 1#1 ↔ b = true := by decide
  simp [IntOp.cmpi, hb]

/-- The listed places at an index: the row's sort by greater entry. -/
theorem first_apply (p : FVec Ideal S1024x126x126 .f32) (n : Fin 1024) (i : Fin 126) (s : Fin 20) :
    first p (ix3 n i s) = BitVec.ofNat 32 (sortedFrom (before fun k => p (ix3 n i k)) ⟨s.val, by omega⟩).val := by
  pointwise [first, Host.topK, Host.sort2]
  simp only [along_apply, gt_eq]
  rfl

/-- The branch's output at an index. -/
theorem conv_apply (a : FVec Ideal S1024x126x126 .f32) (d : FVec Ideal S1024x126 .f32) (h : FVec Ideal S1024x126x32 .f32) (bg : Vec Ideal S32 .f32)
    (n : Fin 1024) (i : Fin 126) (o : Fin 32) : conv a d h bg (ix3 n i o)
      = max ((∑ k : Fin 126, d (ix2 n i) * a (ix3 n i k) * d (ix2 n k) * h (ix3 n k o)) + bg (ix1 o)) 0 := by
  pointwise [conv]

/-- The branch's output at an index: the specification's, of the rows of the scores. -/
theorem out_apply (v : FVec Ideal S1024x126x126 .f32) (n : Fin 1024) (r : Fin 126 → Fin 126 → ℝ)
    (hr : ∀ i k, v (ix3 n i k) = (r i k : EReal)) (hinj : ∀ i, Function.Injective fun k => v (ix3 n i k))
    (h : FVec Ideal S1024x126x32 .f32) (bg : Vec Ideal S32 .f32) (i : Fin 126) (o : Fin 32) :
    out v h bg (ix3 n i o)
      = Spec.out (fun a b => v (ix3 n a b)) (fun k o => h (ix3 n k o)) (fun o => bg (ix1 o)) i o := by
  have hs : ∀ i j, prob (expo v) (ix3 n i j) = Spec.soft (fun k => v (ix3 n i k)) j := fun i j => by
    rw [prob_apply]
    simp only [expo_apply]
    rfl
  have hl : ∀ i j, listed (first (prob (expo v))) (ix3 n i j) = 1#1 ↔ rank (fun k => v (ix3 n i k)) j < 20 := fun i j => by
    rw [listed_apply, ← Spec.rank_soft (fun a b => v (ix3 n a b)) r hr i j,
      ← mem_first (Spec.soft_injective (fun a b => v (ix3 n a b)) r hr hinj i) 20 j]
    simp only [first_apply, hs]
    constructor
    · rintro ⟨s, e⟩
      refine ⟨⟨s.val, by omega⟩, s.isLt, Fin.ext ?_⟩
      have := congrArg BitVec.toNat e
      rw [BitVec.toNat_ofNat, BitVec.toNat_ofNat, Nat.mod_eq_of_lt (by omega), Nat.mod_eq_of_lt (by omega)] at this
      exact this
    · rintro ⟨s, hk, e⟩
      exact ⟨⟨s.val, hk⟩, congrArg (fun x : Fin 126 => BitVec.ofNat 32 x.val) e⟩
  have ha : ∀ i j, adj (prob (expo v)) (listed (first (prob (expo v)))) (ix3 n i j) = Spec.prop (fun a b => v (ix3 n a b)) i j :=
    fun i j => by
    rw [adj_apply, hs]
    simp only [hl]
    rfl
  have hd : ∀ i, power (adj (prob (expo v)) (listed (first (prob (expo v))))) (ix2 n i) = Spec.dinv (fun a b => v (ix3 n a b)) i :=
    fun i => by
    rw [power_apply, ← Spec.dinv_pow (fun a b => v (ix3 n a b)) r hr i]
    simp only [ha]
  unfold out
  rw [conv_apply]
  simp only [ha, hd]
  rfl

/-- The scores, once the bottleneck's linear part is read off the features. -/
theorem score_spec {w : ℕ} (f : Fin 126 → Fin w → EReal) (wbn : Fin w → Fin 64 → EReal) (z : FVec Ideal S1024x126x64 .f32)
    (b : Vec Ideal S64 .f32) (n : Fin 1024) (hz : ∀ i k, z (ix3 n i k) = ∑ q, f i q * wbn q k) (i j : Fin 126) :
    score (neck z b) (ix3 n i j) = Spec.score f wbn (fun k => b (ix1 k)) i j := by
  rw [score_apply]
  simp only [neck_apply, hz]
  rfl

/-- The branch's output, once its scores and transformed features are read off the features. -/
theorem out_branch {w : ℕ} (f : Fin 126 → Fin w → EReal) (wbn : Fin w → Fin 64 → EReal) (bbn : Fin 64 → EReal) (wg : Fin w → Fin 32 → EReal)
    (v : FVec Ideal S1024x126x126 .f32) (h : FVec Ideal S1024x126x32 .f32) (bg : Vec Ideal S32 .f32) (n : Fin 1024)
    (hv : ∀ i j, v (ix3 n i j) = Spec.score f wbn bbn i j) (hh : ∀ i o, h (ix3 n i o) = ∑ q, f i q * wg q o)
    (hn : Spec.NoTie f wbn bbn) (i : Fin 126) (o : Fin 32) :
    out v h bg (ix3 n i o) = Spec.branch f wbn bbn wg (fun o => bg (ix1 o)) i o := by
  choose r hr _ using Spec.score_real f wbn bbn
  rw [out_apply v n r (fun i k => by rw [hv, hr]) fun i => by simpa only [hv] using hn i]
  simp only [hv, hh]
  rfl

/-- The first branch's features into the bottleneck, at an index. -/
theorem down0_apply (f : FVec Ideal S1024x126x128 .f32) (W : FVec Ideal S128x64 .f32) (n : Fin 1024) (i : Fin 126) (k : Fin 64) :
    down0 f W (ix3 n i k) = ∑ q : Fin 128, f (ix3 n i q) * W (ix2 q k) := by
  pointwise [down0]

/-- The first branch's transformed features at an index. -/
theorem lin0_apply (f : FVec Ideal S1024x126x128 .f32) (W : FVec Ideal S128x32 .f32) (n : Fin 1024) (i : Fin 126) (o : Fin 32) :
    lin0 f W (ix3 n i o) = ∑ q : Fin 128, f (ix3 n i q) * W (ix2 q o) := by
  pointwise [lin0]

/-- The second branch's features into the bottleneck, at an index. -/
theorem down1_apply (f : FVec Ideal S1024x126x192 .f32) (W : FVec Ideal S192x64 .f32) (n : Fin 1024) (i : Fin 126) (k : Fin 64) :
    down1 f W (ix3 n i k) = ∑ q : Fin 192, f (ix3 n i q) * W (ix2 q k) := by
  pointwise [down1]

/-- The second branch's transformed features at an index. -/
theorem lin1_apply (f : FVec Ideal S1024x126x192 .f32) (W : FVec Ideal S192x32 .f32) (n : Fin 1024) (i : Fin 126) (o : Fin 32) :
    lin1 f W (ix3 n i o) = ∑ q : Fin 192, f (ix3 n i q) * W (ix2 q o) := by
  pointwise [lin1]

/-- The third branch's features into the bottleneck, at an index. -/
theorem down2_apply (f : FVec Ideal S1024x126x256 .f32) (W : FVec Ideal S256x64 .f32) (n : Fin 1024) (i : Fin 126) (k : Fin 64) :
    down2 f W (ix3 n i k) = ∑ q : Fin 256, f (ix3 n i q) * W (ix2 q k) := by
  pointwise [down2]

/-- The third branch's transformed features at an index. -/
theorem lin2_apply (f : FVec Ideal S1024x126x256 .f32) (W : FVec Ideal S256x32 .f32) (n : Fin 1024) (i : Fin 126) (o : Fin 32) :
    lin2 f W (ix3 n i o) = ∑ q : Fin 256, f (ix3 n i q) * W (ix2 q o) := by
  pointwise [lin2]

/-- The fourth branch's features into the bottleneck, at an index. -/
theorem down3_apply (f : FVec Ideal S1024x126x320 .f32) (W : FVec Ideal S320x64 .f32) (n : Fin 1024) (i : Fin 126) (k : Fin 64) :
    down3 f W (ix3 n i k) = ∑ q : Fin 320, f (ix3 n i q) * W (ix2 q k) := by
  pointwise [down3]

/-- The fourth branch's transformed features at an index. -/
theorem lin3_apply (f : FVec Ideal S1024x126x320 .f32) (W : FVec Ideal S320x32 .f32) (n : Fin 1024) (i : Fin 126) (o : Fin 32) :
    lin3 f W (ix3 n i o) = ∑ q : Fin 320, f (ix3 n i q) * W (ix2 q o) := by
  pointwise [lin3]

section logits

variable (o0 o1 o2 o3 : FVec Ideal S1024x126x32 .f32)

/-- The first branch's rows in the stack. -/
theorem under0_apply (n : Fin 1024) (j : Fin 126) (o : Fin 32) :
    under o0 o1 o2 o3 (ix3 n ⟨0 + j.val, by omega⟩ o) = o0 (ix3 n j o) := by
  pointwise [under]

/-- The second branch's rows in the stack. -/
theorem under1_apply (n : Fin 1024) (j : Fin 126) (o : Fin 32) :
    under o0 o1 o2 o3 (ix3 n ⟨126 + j.val, by omega⟩ o) = o1 (ix3 n j o) := by
  pointwise [under]

/-- The third branch's rows in the stack. -/
theorem under2_apply (n : Fin 1024) (j : Fin 126) (o : Fin 32) :
    under o0 o1 o2 o3 (ix3 n ⟨252 + j.val, by omega⟩ o) = o2 (ix3 n j o) := by
  pointwise [under]
  rw [dif_neg (by omega), dif_neg (by omega), dif_pos (by omega)]
  have e : 252 + j.val - 126 - 126 = j.val := by omega
  simp only [e]

/-- The fourth branch's rows in the stack. -/
theorem under3_apply (n : Fin 1024) (j : Fin 126) (o : Fin 32) :
    under o0 o1 o2 o3 (ix3 n ⟨378 + j.val, by omega⟩ o) = o3 (ix3 n j o) := by
  pointwise [under]
  rw [dif_neg (by omega), dif_neg (by omega), dif_neg (by omega)]
  have e : 378 + j.val - 126 - 126 - 126 = j.val := by omega
  simp only [e]

/-- The logits at an index. -/
theorem logits_apply (w : FVec Ideal S16128x3 .f32) (b : FVec Ideal S3 .f32) (n : Fin 1024) (t : Fin 3) :
    logits (under o0 o1 o2 o3) w b (ix2 n t) = Spec.logit (fun j o => o0 (ix3 n j o)) (fun j o => o1 (ix3 n j o))
      (fun j o => o2 (ix3 n j o)) (fun j o => o3 (ix3 n j o)) (fun a => w (ix2 a t)) (b (ix1 t)) := by
  have h : logits (under o0 o1 o2 o3) w b (ix2 n t)
      = (∑ a : Fin 16128, under o0 o1 o2 o3 (ix3 n ⟨a.val / 32, by omega⟩ ⟨a.val % 32, by omega⟩) * w (ix2 a t)) + b (ix1 t) := by
    generalize under o0 o1 o2 o3 = x
    pointwise [logits]
  have hi : ∀ (s : ℕ) (hs : s < 504) (o : Fin 32), under o0 o1 o2 o3 (ix3 n ⟨(s * 32 + o.val) / 32, by omega⟩ ⟨(s * 32 + o.val) % 32, by omega⟩)
      = under o0 o1 o2 o3 (ix3 n ⟨s, hs⟩ o) := fun s hs o => by
    congr 2
    · exact Fin.ext (by simp only; omega)
    · exact Fin.ext (by simp only; omega)
  rw [h, Spec.sum_flat]
  unfold Spec.logit
  congr 1
  refine Finset.sum_congr rfl fun o _ => ?_
  congr 1
  · congr 1
    · congr 1
      · refine Finset.sum_congr rfl fun j _ => ?_
        rw [hi j.val (by omega)]
        congr 1
        simpa using under0_apply o0 o1 o2 o3 n j o
      · exact Finset.sum_congr rfl fun j _ => by rw [hi (126 + j.val) (by omega), under1_apply]
    · exact Finset.sum_congr rfl fun j _ => by rw [hi (252 + j.val) (by omega), under2_apply]
  · exact Finset.sum_congr rfl fun j _ => by rw [hi (378 + j.val) (by omega), under3_apply]

end logits

end Cert.ReferenceIdeal.Branch
-- ==== Proof.Graph.lean ====
module

public import proofs.«01_k».proof.Proof.HostAt
public import proofs.«01_k».proof.Proof.RefFeat
public import proofs.«01_k».proof.Proof.RefAt

/-! # One graph: what the kernel computes of it is what the reference computes of it -/

@[expose] public section

set_option maxRecDepth 16384

noncomputable section

namespace Cert.Equal

open Idealize.ShloMosaic Cert.KernelIdeal Cert.KernelIdeal.Host
open Cert.ReferenceIdeal.Value (res_main_v42 res_main_v49 res_main_v125 res_main_v132 res_main_v198 res_main_v205 res_main_v259 res_main_v266 res_main_v315)

/-- Node `i` of graph `n`, among all the nodes. -/
abbrev node (n : Fin 1024) (i : Fin 126) : Fin 129024 := ⟨n.val * 126 + i.val, by omega⟩

section graph

variable (V0 : Valuation ReferenceIdeal.τ ReferenceIdeal.sig (Elt Ideal)) (n : Fin 1024)

/-- Argument 0. -/
abbrev a0 : Vec Ideal S129024x40 .f32 := V0 (Proc.devRef .tc ReferenceIdeal.main_arg0)

/-- Argument 3. -/
abbrev a3 : Vec Ideal S32x1x4x7 .f32 := V0 (Proc.devRef .tc ReferenceIdeal.main_arg3)

/-- Argument 4. -/
abbrev a4 : Vec Ideal S32 .f32 := V0 (Proc.devRef .tc ReferenceIdeal.main_arg4)

/-- Argument 5. -/
abbrev a5 : Vec Ideal S32x1x4x5 .f32 := V0 (Proc.devRef .tc ReferenceIdeal.main_arg5)

/-- Argument 6. -/
abbrev a6 : Vec Ideal S32 .f32 := V0 (Proc.devRef .tc ReferenceIdeal.main_arg6)

/-- Argument 7. -/
abbrev a7 : Vec Ideal S32x1x4x3 .f32 := V0 (Proc.devRef .tc ReferenceIdeal.main_arg7)

/-- Argument 8. -/
abbrev a8 : Vec Ideal S32 .f32 := V0 (Proc.devRef .tc ReferenceIdeal.main_arg8)

/-- Argument 9. -/
abbrev a9 : Vec Ideal S32x1x4x1 .f32 := V0 (Proc.devRef .tc ReferenceIdeal.main_arg9)

/-- Argument 10. -/
abbrev a10 : Vec Ideal S32 .f32 := V0 (Proc.devRef .tc ReferenceIdeal.main_arg10)

/-- Argument 11. -/
abbrev a11 : Vec Ideal S128x64 .f32 := V0 (Proc.devRef .tc ReferenceIdeal.main_arg11)

/-- Argument 12. -/
abbrev a12 : Vec Ideal S64 .f32 := V0 (Proc.devRef .tc ReferenceIdeal.main_arg12)

/-- Argument 13. -/
abbrev a13 : Vec Ideal S128x32 .f32 := V0 (Proc.devRef .tc ReferenceIdeal.main_arg13)

/-- Argument 14. -/
abbrev a14 : Vec Ideal S32 .f32 := V0 (Proc.devRef .tc ReferenceIdeal.main_arg14)

/-- Argument 15. -/
abbrev a15 : Vec Ideal S192x64 .f32 := V0 (Proc.devRef .tc ReferenceIdeal.main_arg15)

/-- Argument 16. -/
abbrev a16 : Vec Ideal S64 .f32 := V0 (Proc.devRef .tc ReferenceIdeal.main_arg16)

/-- Argument 17. -/
abbrev a17 : Vec Ideal S192x32 .f32 := V0 (Proc.devRef .tc ReferenceIdeal.main_arg17)

/-- Argument 18. -/
abbrev a18 : Vec Ideal S32 .f32 := V0 (Proc.devRef .tc ReferenceIdeal.main_arg18)

/-- Argument 19. -/
abbrev a19 : Vec Ideal S256x64 .f32 := V0 (Proc.devRef .tc ReferenceIdeal.main_arg19)

/-- Argument 20. -/
abbrev a20 : Vec Ideal S64 .f32 := V0 (Proc.devRef .tc ReferenceIdeal.main_arg20)

/-- Argument 21. -/
abbrev a21 : Vec Ideal S256x32 .f32 := V0 (Proc.devRef .tc ReferenceIdeal.main_arg21)

/-- Argument 22. -/
abbrev a22 : Vec Ideal S32 .f32 := V0 (Proc.devRef .tc ReferenceIdeal.main_arg22)

/-- Argument 23. -/
abbrev a23 : Vec Ideal S320x64 .f32 := V0 (Proc.devRef .tc ReferenceIdeal.main_arg23)

/-- Argument 24. -/
abbrev a24 : Vec Ideal S64 .f32 := V0 (Proc.devRef .tc ReferenceIdeal.main_arg24)

/-- Argument 25. -/
abbrev a25 : Vec Ideal S320x32 .f32 := V0 (Proc.devRef .tc ReferenceIdeal.main_arg25)

/-- Argument 26. -/
abbrev a26 : Vec Ideal S32 .f32 := V0 (Proc.devRef .tc ReferenceIdeal.main_arg26)

/-- Argument 27. -/
abbrev a27 : Vec Ideal S16128x3 .f32 := V0 (Proc.devRef .tc ReferenceIdeal.main_arg27)

/-- Argument 28. -/
abbrev a28 : Vec Ideal S3 .f32 := V0 (Proc.devRef .tc ReferenceIdeal.main_arg28)

/-- The kernel's matrix of the reference's weights. -/
abbrev mat : Vec Ideal S40x960 .f32 := amat (a3 V0) (a5 V0) (a7 V0) (a9 V0)

/-- The kernel's bias row of the reference's biases. -/
abbrev row : Vec Ideal S1x960 .f32 := brow (a4 V0) (a6 V0) (a8 V0) (a10 V0)

variable (xg : Vec Ideal S1x126x40 .f32) (hx : ∀ i k, xg (ix3 0 i k) = a0 V0 (ix2 (node n i) k))

/-- The first branch's scores are the specification's. -/
theorem score0 (i j : Fin 126) : res_main_v49 V0 (ix3 n i j) = Spec.score (fun i q => res_main_v42 V0 (ix3 n i q))
    (fun q k => a11 V0 (ix2 q k)) (fun k => a12 V0 (ix1 k)) i j := by
  rw [ReferenceIdeal.Branch.score0_eq]
  exact ReferenceIdeal.Branch.score_spec _ _ _ _ n (fun i k => ReferenceIdeal.Branch.down0_apply _ _ n i k) i j

include hx in
/-- The first branch's output in the kernel is the reference's. -/
theorem out0 (b : Vec Ideal S1x64 .f32) (hb : ∀ k, b (ix2 0 k) = a12 V0 (ix1 k)) (bg : Vec Ideal S1x32 .f32)
    (hbg : ∀ o, bg (ix2 0 o) = a14 V0 (ix1 o)) (hn : ∀ i, Function.Injective fun k => res_main_v49 V0 (ix3 n i k)) (j : Fin 126) (o : Fin 32) :
    Block.out0 xg (mat V0) (row V0) (a11 V0) b (a13 V0) bg (ix2 j o)
      = ReferenceIdeal.Branch.out (res_main_v49 V0) (ReferenceIdeal.Branch.lin0 (res_main_v42 V0) (a13 V0)) (a14 V0) (ix3 n j o) := by
  have hn' : Spec.NoTie (fun i q => res_main_v42 V0 (ix3 n i q)) (fun q k => a11 V0 (ix2 q k)) (fun k => a12 V0 (ix1 k)) := fun i => by
    simpa only [score0] using hn i
  have hb' : (fun k => b (ix2 0 k)) = fun k => a12 V0 (ix1 k) := funext hb
  have hbg' : (fun o => bg (ix2 0 o)) = fun o => a14 V0 (ix1 o) := funext hbg
  rw [Block.out0_apply xg (mat V0) (row V0) (a11 V0) b (a13 V0) bg (fun i q => res_main_v42 V0 (ix3 n i q))
      (fun i q => by rw [ReferenceIdeal.Branch.feat0_apply, feat0_apply]; simp only [hx]) (by rw [hb']; exact hn') j o, hb', hbg']
  exact (ReferenceIdeal.Branch.out_branch _ _ _ (fun q o => a13 V0 (ix2 q o)) _ _ _ n (score0 V0 n)
    (fun i o => ReferenceIdeal.Branch.lin0_apply _ _ n i o) hn' j o).symm

/-- The second branch's scores are the specification's. -/
theorem score1 (i j : Fin 126) : res_main_v132 V0 (ix3 n i j) = Spec.score (fun i q => res_main_v125 V0 (ix3 n i q))
    (fun q k => a15 V0 (ix2 q k)) (fun k => a16 V0 (ix1 k)) i j := by
  rw [ReferenceIdeal.Branch.score1_eq]
  exact ReferenceIdeal.Branch.score_spec _ _ _ _ n (fun i k => ReferenceIdeal.Branch.down1_apply _ _ n i k) i j

include hx in
/-- The second branch's output in the kernel is the reference's. -/
theorem out1 (b : Vec Ideal S1x64 .f32) (hb : ∀ k, b (ix2 0 k) = a16 V0 (ix1 k)) (bg : Vec Ideal S1x32 .f32)
    (hbg : ∀ o, bg (ix2 0 o) = a18 V0 (ix1 o)) (hn : ∀ i, Function.Injective fun k => res_main_v132 V0 (ix3 n i k)) (j : Fin 126) (o : Fin 32) :
    Block.out1 xg (mat V0) (row V0) (a15 V0) b (a17 V0) bg (ix2 j o)
      = ReferenceIdeal.Branch.out (res_main_v132 V0) (ReferenceIdeal.Branch.lin1 (res_main_v125 V0) (a17 V0)) (a18 V0) (ix3 n j o) := by
  have hn' : Spec.NoTie (fun i q => res_main_v125 V0 (ix3 n i q)) (fun q k => a15 V0 (ix2 q k)) (fun k => a16 V0 (ix1 k)) := fun i => by
    simpa only [score1] using hn i
  have hb' : (fun k => b (ix2 0 k)) = fun k => a16 V0 (ix1 k) := funext hb
  have hbg' : (fun o => bg (ix2 0 o)) = fun o => a18 V0 (ix1 o) := funext hbg
  rw [Block.out1_apply xg (mat V0) (row V0) (a15 V0) b (a17 V0) bg (fun i q => res_main_v125 V0 (ix3 n i q))
      (fun i q => by rw [ReferenceIdeal.Branch.feat1_apply, feat1_apply]; simp only [hx]) (by rw [hb']; exact hn') j o, hb', hbg']
  exact (ReferenceIdeal.Branch.out_branch _ _ _ (fun q o => a17 V0 (ix2 q o)) _ _ _ n (score1 V0 n)
    (fun i o => ReferenceIdeal.Branch.lin1_apply _ _ n i o) hn' j o).symm

/-- The third branch's scores are the specification's. -/
theorem score2 (i j : Fin 126) : res_main_v205 V0 (ix3 n i j) = Spec.score (fun i q => res_main_v198 V0 (ix3 n i q))
    (fun q k => a19 V0 (ix2 q k)) (fun k => a20 V0 (ix1 k)) i j := by
  rw [ReferenceIdeal.Branch.score2_eq]
  exact ReferenceIdeal.Branch.score_spec _ _ _ _ n (fun i k => ReferenceIdeal.Branch.down2_apply _ _ n i k) i j

include hx in
/-- The third branch's output in the kernel is the reference's. -/
theorem out2 (b : Vec Ideal S1x64 .f32) (hb : ∀ k, b (ix2 0 k) = a20 V0 (ix1 k)) (bg : Vec Ideal S1x32 .f32)
    (hbg : ∀ o, bg (ix2 0 o) = a22 V0 (ix1 o)) (hn : ∀ i, Function.Injective fun k => res_main_v205 V0 (ix3 n i k)) (j : Fin 126) (o : Fin 32) :
    Block.out2 xg (mat V0) (row V0) (a19 V0) b (a21 V0) bg (ix2 j o)
      = ReferenceIdeal.Branch.out (res_main_v205 V0) (ReferenceIdeal.Branch.lin2 (res_main_v198 V0) (a21 V0)) (a22 V0) (ix3 n j o) := by
  have hn' : Spec.NoTie (fun i q => res_main_v198 V0 (ix3 n i q)) (fun q k => a19 V0 (ix2 q k)) (fun k => a20 V0 (ix1 k)) := fun i => by
    simpa only [score2] using hn i
  have hb' : (fun k => b (ix2 0 k)) = fun k => a20 V0 (ix1 k) := funext hb
  have hbg' : (fun o => bg (ix2 0 o)) = fun o => a22 V0 (ix1 o) := funext hbg
  rw [Block.out2_apply xg (mat V0) (row V0) (a19 V0) b (a21 V0) bg (fun i q => res_main_v198 V0 (ix3 n i q))
      (fun i q => by rw [ReferenceIdeal.Branch.feat2_apply, feat2_apply]; simp only [hx]) (by rw [hb']; exact hn') j o, hb', hbg']
  exact (ReferenceIdeal.Branch.out_branch _ _ _ (fun q o => a21 V0 (ix2 q o)) _ _ _ n (score2 V0 n)
    (fun i o => ReferenceIdeal.Branch.lin2_apply _ _ n i o) hn' j o).symm

/-- The fourth branch's scores are the specification's. -/
theorem score3 (i j : Fin 126) : res_main_v266 V0 (ix3 n i j) = Spec.score (fun i q => res_main_v259 V0 (ix3 n i q))
    (fun q k => a23 V0 (ix2 q k)) (fun k => a24 V0 (ix1 k)) i j := by
  rw [ReferenceIdeal.Branch.score3_eq]
  exact ReferenceIdeal.Branch.score_spec _ _ _ _ n (fun i k => ReferenceIdeal.Branch.down3_apply _ _ n i k) i j

include hx in
/-- The fourth branch's output in the kernel is the reference's. -/
theorem out3 (b : Vec Ideal S1x64 .f32) (hb : ∀ k, b (ix2 0 k) = a24 V0 (ix1 k)) (bg : Vec Ideal S1x32 .f32)
    (hbg : ∀ o, bg (ix2 0 o) = a26 V0 (ix1 o)) (hn : ∀ i, Function.Injective fun k => res_main_v266 V0 (ix3 n i k)) (j : Fin 126) (o : Fin 32) :
    Block.out3 xg (mat V0) (row V0) (a23 V0) b (a25 V0) bg (ix2 j o)
      = ReferenceIdeal.Branch.out (res_main_v266 V0) (ReferenceIdeal.Branch.lin3 (res_main_v259 V0) (a25 V0)) (a26 V0) (ix3 n j o) := by
  have hn' : Spec.NoTie (fun i q => res_main_v259 V0 (ix3 n i q)) (fun q k => a23 V0 (ix2 q k)) (fun k => a24 V0 (ix1 k)) := fun i => by
    simpa only [score3] using hn i
  have hb' : (fun k => b (ix2 0 k)) = fun k => a24 V0 (ix1 k) := funext hb
  have hbg' : (fun o => bg (ix2 0 o)) = fun o => a26 V0 (ix1 o) := funext hbg
  rw [Block.out3_apply xg (mat V0) (row V0) (a23 V0) b (a25 V0) bg (fun i q => res_main_v259 V0 (ix3 n i q))
      (fun i q => by rw [ReferenceIdeal.Branch.feat3_apply, feat3_apply]; simp only [hx]) (by rw [hb']; exact hn') j o, hb', hbg']
  exact (ReferenceIdeal.Branch.out_branch _ _ _ (fun q o => a25 V0 (ix2 q o)) _ _ _ n (score3 V0 n)
    (fun i o => ReferenceIdeal.Branch.lin3_apply _ _ n i o) hn' j o).symm

end graph

end Cert.Equal
-- ==== Proof.Logits.lean ====
module

public import Idealize.ShloMosaic.Lib.Pipeline.ValueKit.Tiles
public import proofs.«01_k».proof.Proof.Graph

/-! # One graph: its logits in the kernel are its logits in the reference -/

@[expose] public section

set_option maxRecDepth 16384

noncomputable section

namespace Cert.Equal

open Idealize.ShloMosaic Cert.KernelIdeal Cert.KernelIdeal.Host Cert.KernelIdeal.Gen
open Cert.ReferenceIdeal.Value (res_main_v49 res_main_v132 res_main_v205 res_main_v266 res_main_v315)

variable (V0 : Valuation ReferenceIdeal.τ ReferenceIdeal.sig (Elt Ideal)) (n : Fin 1024)

/-- A bottleneck bias as a row. -/
abbrev row64 (b : Vec Ideal S64 .f32) : Vec Ideal S1x64 .f32 := shapeCast S1x64 b shapeCasts_S64_S1x64

/-- A graph convolution bias as a row. -/
abbrev row32 (b : Vec Ideal S32 .f32) : Vec Ideal S1x32 .f32 := shapeCast S1x32 b shapeCasts_S32_S1x32

/-- The final bias as a row. -/
abbrev row3 (b : Vec Ideal S3 .f32) : Vec Ideal S1x3 .f32 := shapeCast S1x3 b shapeCasts_S3_S1x3

/-- The final weights with the class first. -/
abbrev turned (w : Vec Ideal S16128x3 .f32) : Vec Ideal S3x504x32 .f32 :=
  transpose S3x504x32 [2, 0, 1] (shapeCast S504x32x3 w shapeCasts_S16128x3_S504x32x3) transposes_S504x32x3_S3x504x32_2_0_1

/-- A bottleneck bias row at an index. -/
theorem row64_apply (b : Vec Ideal S64 .f32) (k : Fin 64) : row64 b (ix2 0 k) = b (ix1 k) := by pointwise [row64]

/-- A graph convolution bias row at an index. -/
theorem row32_apply (b : Vec Ideal S32 .f32) (k : Fin 32) : row32 b (ix2 0 k) = b (ix1 k) := by pointwise [row32]

/-- The final bias row at an index. -/
theorem row3_apply (b : Vec Ideal S3 .f32) (k : Fin 3) : row3 b (ix2 0 k) = b (ix1 k) := by pointwise [row3]

/-- The final weights at an index. -/
theorem turned_apply (w : Vec Ideal S16128x3 .f32) (t : Fin 3) (s : Fin 504) (o : Fin 32) :
    turned w (ix3 t s o) = w (ix2 ⟨s.val * 32 + o.val, by omega⟩ t) := by pointwise [turned]

/-- A block of 126 rows of one class, loaded from the final weights, at an index. -/
theorem ld_turned (w : Vec Ideal S16128x3 .f32) (t s : ℕ) (inb) (ht : t < 3) (hs : s + 126 ≤ 504) (j : Fin 126) (o : Fin 32) :
    View.ld (Val := Elt Ideal) (e' := EltTy.f32) (turned w) (Rect.unit (s := S3x504x32) ![t, s, 0] S1x126x32.size inb) (ix3 0 j o)
      = w (ix2 ⟨(s + j.val) * 32 + o.val, by omega⟩ ⟨t, ht⟩) := by
  rw [Idealize.ShloMosaic.View.ld_unit_apply_of _ _ _ _ _ (ix3 ⟨t, ht⟩ ⟨s + j.val, by omega⟩ o)
    (fun a => by fin_cases a <;> simp [ix3]), turned_apply]

/-- One class's logit before the final bias, with that class's rows of the final weights loaded block by block. -/
theorem class_eq (w : Vec Ideal S16128x3 .f32) (b : EReal) (o0 o1 o2 o3 : FVec Ideal S126x32 .f32) (R0 R1 R2 R3 : Fin 126 → Fin 32 → EReal)
    (h0 : ∀ j o, o0 (ix2 j o) = R0 j o) (h1 : ∀ j o, o1 (ix2 j o) = R1 j o) (h2 : ∀ j o, o2 (ix2 j o) = R2 j o)
    (h3 : ∀ j o, o3 (ix2 j o) = R3 j o) (t : ℕ) (ht : t < 3) (i0 i1 i2 i3) :
    Block.logit o0 o1 o2 o3 (View.ld (Val := Elt Ideal) (e' := EltTy.f32) (turned w) (Rect.unit (s := S3x504x32) ![t, 0, 0] S1x126x32.size i0))
        (View.ld (Val := Elt Ideal) (e' := EltTy.f32) (turned w) (Rect.unit (s := S3x504x32) ![t, 126, 0] S1x126x32.size i1))
        (View.ld (Val := Elt Ideal) (e' := EltTy.f32) (turned w) (Rect.unit (s := S3x504x32) ![t, 252, 0] S1x126x32.size i2))
        (View.ld (Val := Elt Ideal) (e' := EltTy.f32) (turned w) (Rect.unit (s := S3x504x32) ![t, 378, 0] S1x126x32.size i3)) (ix1 0) + b
      = Spec.logit R0 R1 R2 R3 (fun a => w (ix2 a ⟨t, ht⟩)) b := by
  unfold Spec.logit
  refine congrArg (· + b) ((Block.logit_apply _ _ _ _ _ _ _ _ 0).trans (Finset.sum_congr rfl fun o _ => ?_))
  refine congrArg₂ (· + ·) (congrArg₂ (· + ·) (congrArg₂ (· + ·) ?_ ?_) ?_) ?_ <;> refine Finset.sum_congr rfl fun j _ => congrArg₂ (· * ·) ?_ ?_
  · exact h0 j o
  · refine (ld_turned w t 0 i0 ht (by omega) j o).trans ?_
    simp only [Nat.zero_add]
  · exact h1 j o
  · exact ld_turned w t 126 i1 ht (by omega) j o
  · exact h2 j o
  · exact ld_turned w t 252 i2 ht (by omega) j o
  · exact h3 j o
  · exact ld_turned w t 378 i3 ht (by omega) j o

/-- The kernel's logits of one graph, from the reference's arguments. -/
def logits (xg : Vec Ideal S1x126x40 .f32) : FVec Ideal S1x3 .f32 :=
  Block.graph (mat V0) (row V0) (a11 V0) (row64 (a12 V0)) (a13 V0) (row32 (a14 V0)) (a15 V0) (row64 (a16 V0)) (a17 V0)
    (row32 (a18 V0)) (a19 V0) (row64 (a20 V0)) (a21 V0) (row32 (a22 V0)) (a23 V0) (row64 (a24 V0)) (a25 V0) (row32 (a26 V0))
    (turned (a27 V0)) (row3 (a28 V0)) xg

/-- No two scores of one row of a graph are equal, in any of the four branches. -/
structure NoTie : Prop where
  first : ∀ i, Function.Injective fun k => res_main_v49 V0 (ix3 n i k)
  second : ∀ i, Function.Injective fun k => res_main_v132 V0 (ix3 n i k)
  third : ∀ i, Function.Injective fun k => res_main_v205 V0 (ix3 n i k)
  fourth : ∀ i, Function.Injective fun k => res_main_v266 V0 (ix3 n i k)

/-- The kernel's logits of a graph are the reference's. -/
theorem logits_eq (xg : Vec Ideal S1x126x40 .f32) (hx : ∀ i k, xg (ix3 0 i k) = a0 V0 (ix2 (node n i) k))
    (hn : NoTie V0 n) (t : Fin 3) : logits V0 xg (ix2 0 t) = res_main_v315 V0 (ix2 n t) := by
  rw [ReferenceIdeal.Branch.logits_eq, ReferenceIdeal.Branch.logits_apply, logits, Block.graph, Block.logits_apply, row3_apply]
  have h0 := out0 V0 n xg hx (row64 (a12 V0)) (row64_apply _) (row32 (a14 V0)) (row32_apply _) hn.first
  have h1 := out1 V0 n xg hx (row64 (a16 V0)) (row64_apply _) (row32 (a18 V0)) (row32_apply _) hn.second
  have h2 := out2 V0 n xg hx (row64 (a20 V0)) (row64_apply _) (row32 (a22 V0)) (row32_apply _) hn.third
  have h3 := out3 V0 n xg hx (row64 (a24 V0)) (row64_apply _) (row32 (a26 V0)) (row32_apply _) hn.fourth
  unfold Block.lg
  fin_cases t <;> exact class_eq (a27 V0) _ _ _ _ _ _ _ _ _ h0 h1 h2 h3 _ (by decide) _ _ _ _

end Cert.Equal
-- ==== Proof.RefSoft.lean ====
module

public import proofs.«01_k».proof.Proof.RefAt

/-! # The reference's softmax of the logits -/

@[expose] public section

set_option maxRecDepth 16384

noncomputable section

namespace Cert.ReferenceIdeal.Branch

open Cert.ReferenceIdeal Cert.ReferenceIdeal.Gen Idealize.ShloMosaic Cert.Choose

/-- The graphs' largest logits. -/
def largest (l : FVec Ideal S1024x3 .f32) : FVec Ideal S1024 .f32 :=
  Host.reduce FloatOps.maximumf l (constant S_ .f32 0xFF800000#32) reducesTo_S1024x3_S1024_d1 h_S_

/-- The exponentials of the logits less a given value per graph. -/
def above (l : FVec Ideal S1024x3 .f32) (u : FVec Ideal S1024 .f32) : FVec Ideal S1024x3 .f32 :=
  Host.exp (subf l (broadcastInDim S1024x3 ![0, 1] bcast_S1024x1_S1024x3_0_1 (broadcastInDim S1024x1 ![0] bcast_S1024_S1024x1_0
    (maximumf (broadcastInDim S1024 ![] bcast_S_S1024 (constant S_ .f32 0xFF800000#32)) u))))

/-- The exponentials divided by their graph's sum. -/
def shares (e : FVec Ideal S1024x3 .f32) : FVec Ideal S1024x3 .f32 :=
  Host.divf e (broadcastInDim S1024x3 ![0, 1] bcast_S1024x1_S1024x3_0_1 (broadcastInDim S1024x1 ![0] bcast_S1024_S1024x1_0
    (Host.reduceAdd e (constant S_ .f32 0x00000000#32) reducesTo_S1024x3_S1024_d1 h_S_)))

/-- The class probabilities of the logits. -/
def classes (l : FVec Ideal S1024x3 .f32) : FVec Ideal S1024x3 .f32 := shares (above l (largest l))

/-- The largest logit at an index. -/
theorem largest_apply (l : FVec Ideal S1024x3 .f32) (n : Fin 1024) : largest l (ix1 n) = top (fun k => l (ix2 n k)) := by
  unfold top
  pointwise [largest, KernelIdeal.Block.ofBits_ninf]

/-- The exponentials at an index. -/
theorem above_apply (l : FVec Ideal S1024x3 .f32) (u : FVec Ideal S1024 .f32) (n : Fin 1024) (t : Fin 3) :
    above l u (ix2 n t) = Ideal.exp (l (ix2 n t) - u (ix1 n)) := by
  pointwise [above, KernelIdeal.Block.ofBits_ninf]
  rw [max_eq_right bot_le]

/-- The quotients at an index. -/
theorem shares_apply (e : FVec Ideal S1024x3 .f32) (n : Fin 1024) (t : Fin 3) :
    shares e (ix2 n t) = Ideal.div (e (ix2 n t)) (∑ k : Fin 3, e (ix2 n k)) := by
  pointwise [shares]

/-- The class probabilities at an index are the softmax of the graph's logits. -/
theorem classes_apply (l : FVec Ideal S1024x3 .f32) (n : Fin 1024) (t : Fin 3) :
    classes l (ix2 n t) = Spec.soft (fun k => l (ix2 n k)) t := by
  rw [classes, shares_apply]
  simp only [above_apply, largest_apply]
  rfl

variable (V0 : Valuation τ sig (Elt Ideal))

/-- The reference's second result, before its last reshape. -/
theorem classes_eq : Host.divf (Value.res_main_v322 V0) (broadcastInDim S1024x3 ![0, 1] bcast_S1024x1_S1024x3_0_1
      (broadcastInDim S1024x1 ![0] bcast_S1024_S1024x1_0 (Host.reduceAdd (Value.res_main_v322 V0) (constant S_ .f32 0x00000000#32)
        reducesTo_S1024x3_S1024_d1 h_S_))) = classes (Value.res_main_v315 V0) := rfl

end Cert.ReferenceIdeal.Branch
-- ==== Proof.Point.lean ====
module

public import proofs.«01_k».proof.Proof.Logits
public import proofs.«01_k».proof.Proof.RefSoft

/-! # One point of the kernel's grid: what it stores of its two graphs -/

@[expose] public section

set_option maxRecDepth 16384

noncomputable section

namespace Cert.Equal

open Idealize.ShloMosaic Cert.KernelIdeal Cert.KernelIdeal.Gen
open Cert.ReferenceIdeal.Value (res_main_v315)

variable (V0 : Valuation ReferenceIdeal.τ ReferenceIdeal.sig (Elt Ideal)) (X : Vec Ideal S2x126x40 .f32)

/-- Zero offsets on two axes. -/
theorem zero2 : (![0, 0] : Fin 2 → ℕ) = fun _ => 0 := by decide

/-- A load of a whole matrix is the matrix. -/
theorem ld_all {a b : ℕ} (x : Vec Ideal ⟨2, ![a, b]⟩ .f32) (inb) :
    View.ld (Val := Elt Ideal) (e' := EltTy.f32) x (Rect.unit (s := ⟨2, ![a, b]⟩) ![0, 0] ![a, b] inb) = x :=
  View.ld_unit_zero (S := ⟨2, ![a, b]⟩) zero2 inb x

/-- The logits from loads of whole matrices are the logits from the matrices. -/
theorem graph_ld (x1 : Vec Ideal S40x960 .f32) (x2 : Vec Ideal S1x960 .f32) (x3 : Vec Ideal S128x64 .f32) (x4 : Vec Ideal S1x64 .f32)
    (x5 : Vec Ideal S128x32 .f32) (x6 : Vec Ideal S1x32 .f32) (x7 : Vec Ideal S192x64 .f32) (x8 : Vec Ideal S1x64 .f32)
    (x9 : Vec Ideal S192x32 .f32) (x10 : Vec Ideal S1x32 .f32) (x11 : Vec Ideal S256x64 .f32) (x12 : Vec Ideal S1x64 .f32)
    (x13 : Vec Ideal S256x32 .f32) (x14 : Vec Ideal S1x32 .f32) (x15 : Vec Ideal S320x64 .f32) (x16 : Vec Ideal S1x64
    .f32) (x17 : Vec Ideal S320x32 .f32) (x18 : Vec Ideal S1x32 .f32)
    (x19 : Vec Ideal S3x504x32 .f32) (x20 : Vec Ideal S1x3 .f32) (xg : Vec Ideal S1x126x40 .f32) :
    Block.graph (View.ld x1 r0_1) (View.ld x2 r0_2) (View.ld x3 r0_3) (View.ld x4 r0_4) (View.ld x5 r0_5) (View.ld x6 r0_12) (View.ld x7
      r0_6) (View.ld x8 r0_4) (View.ld x9 r0_7) (View.ld x10 r0_12) (View.ld x11 r0_8) (View.ld x12 r0_4) (View.ld x13 r0_9)
      (View.ld x14 r0_12) (View.ld x15 r0_10) (View.ld x16 r0_4) (View.ld x17 r0_11) (View.ld x18 r0_12) x19 (View.ld x20 r0_25) xg
      = Block.graph x1 x2 x3 x4 x5 x6 x7 x8 x9 x10 x11 x12 x13 x14 x15 x16 x17 x18 x19 x20 xg := by
  rw [show View.ld x1 r0_1 = x1 from ld_all x1 _, show View.ld x2 r0_2 = x2 from ld_all x2 _, show View.ld x3 r0_3 = x3 from ld_all
    x3 _, show View.ld x4 r0_4 = x4 from ld_all x4 _, show View.ld x5 r0_5 = x5 from ld_all x5 _, show View.ld x6 r0_12 = x6 from
    ld_all x6 _, show View.ld x7 r0_6 = x7 from ld_all x7 _, show View.ld x8 r0_4 = x8 from ld_all x8 _, show View.ld x9 r0_7 =
    x9 from ld_all x9 _, show View.ld x10 r0_12 = x10 from ld_all x10 _, show View.ld x11 r0_8 = x11 from ld_all x11 _, show
    View.ld x12 r0_4 = x12 from ld_all x12 _, show View.ld x13 r0_9 = x13 from ld_all x13 _, show View.ld x14 r0_12 = x14 from
    ld_all x14 _, show View.ld x15 r0_10 = x15 from ld_all x15 _, show View.ld x16 r0_4 = x16 from ld_all x16 _, show View.ld x17
    r0_11 = x17 from ld_all x17 _, show View.ld x18 r0_12 = x18 from ld_all x18 _, show View.ld x20 r0_25 = x20 from ld_all x20 _]

/-- What a point stores in the first result's buffer, from the reference's arguments. -/
theorem stored21 : out0_21 X (mat V0) (row V0) (a11 V0) (row64 (a12 V0)) (a13 V0) (row32 (a14 V0)) (a15 V0) (row64 (a16 V0)) (a17 V0)
      (row32 (a18 V0)) (a19 V0) (row64 (a20 V0)) (a21 V0) (row32 (a22 V0)) (a23 V0) (row64 (a24 V0)) (a25 V0) (row32 (a26 V0))
      (turned (a27 V0)) (row3 (a28 V0))
    = View.canon [⟨r0_28, shapeCast S1x1x3 (logits V0 (View.ld X r0_27)) shapeCasts_S1x3_S1x1x3⟩,
        ⟨r0_26, shapeCast S1x1x3 (logits V0 (View.ld X r0_0)) shapeCasts_S1x3_S1x1x3⟩] := by
  rw [Block.out21_eq, graph_ld, graph_ld]
  rfl

/-- What a point stores in the second result's buffer, from the reference's arguments. -/
theorem stored22 : out0_22 X (mat V0) (row V0) (a11 V0) (row64 (a12 V0)) (a13 V0) (row32 (a14 V0)) (a15 V0) (row64 (a16 V0)) (a17 V0)
      (row32 (a18 V0)) (a19 V0) (row64 (a20 V0)) (a21 V0) (row32 (a22 V0)) (a23 V0) (row64 (a24 V0)) (a25 V0) (row32 (a26 V0))
      (turned (a27 V0)) (row3 (a28 V0))
    = View.canon [⟨r0_28, shapeCast S1x1x3 (Block.soft (logits V0 (View.ld X r0_27))) shapeCasts_S1x3_S1x1x3⟩,
        ⟨r0_26, shapeCast S1x1x3 (Block.soft (logits V0 (View.ld X r0_0))) shapeCasts_S1x3_S1x1x3⟩] := by
  rw [Block.out22_eq, graph_ld, graph_ld]
  rfl

/-- Two rows stored one after the other, read at an index. -/
theorem pair_apply (u w : Vec Ideal S1x1x3 .f32) (g : Fin 2) (k : Fin 3) :
    View.canon (Val := Elt Ideal) (e := EltTy.f32) [⟨r0_28, w⟩, ⟨r0_26, u⟩] (ix3 g 0 k) = (![u, w] g) (ix3 0 0 k) := by
  refine View.canon_eq_of_allAt _ _ _ (cover0_21 (F := Ideal) w u _) ?_
  refine View.allAt_cons_unit _ _ _ _ _ (fun x hx => ?_) (View.allAt_cons_unit _ _ _ _ _ (fun x hx => ?_) (View.allAt_nil _ _))
  · have h0 : g.val = 1 + (x 0).val := hx 0
    have h2 : k.val = 0 + (x 2).val := hx 2
    obtain rfl : g = 1 := Fin.ext (show g.val = 1 by omega)
    refine congrArg w (funext fun d => ?_)
    fin_cases d
    · exact Subsingleton.elim (α := Fin 1) _ _
    · exact Subsingleton.elim (α := Fin 1) _ _
    · exact Fin.ext (show (x 2).val = k.val by omega)
  · have hb : (x 0).val < 1 := (x 0).isLt
    have h0 : g.val = 0 + (x 0).val := hx 0
    have h2 : k.val = 0 + (x 2).val := hx 2
    obtain rfl : g = 0 := Fin.ext (show g.val = 0 by omega)
    refine congrArg u (funext fun d => ?_)
    fin_cases d
    · exact Subsingleton.elim (α := Fin 1) _ _
    · exact Subsingleton.elim (α := Fin 1) _ _
    · exact Fin.ext (show (x 2).val = k.val by omega)

/-- A graph of the loaded pair. -/
def member (g : Fin 2) : Vec Ideal S1x126x40 .f32 := ![View.ld X r0_0, View.ld X r0_27] g

/-- A graph of the loaded pair at an index. -/
theorem member_apply (g : Fin 2) (i : Fin 126) (q : Fin 40) : member X g (ix3 0 i q) = X (ix3 g i q) := by
  fin_cases g
  · exact View.ld_unit_apply_of X _ _ _ _ (ix3 0 i q) (fun a => by fin_cases a <;> simp [ix3])
  · exact View.ld_unit_apply_of X _ _ _ _ (ix3 1 i q) (fun a => by fin_cases a <;> simp [ix3])

/-- A row of three with two leading axes, at an index. -/
theorem lead_apply (v : FVec Ideal S1x3 .f32) (k : Fin 3) : shapeCast S1x1x3 v shapeCasts_S1x3_S1x1x3 (ix3 0 0 k) = v (ix2 0 k) := by
  pointwise

section point

variable (n : Fin 1024) (g : Fin 2) (hx : ∀ i q, X (ix3 g i q) = a0 V0 (ix2 (node n i) q)) (hn : NoTie V0 n) (k : Fin 3)

include hx hn

/-- What a point stores of a graph in the first result's buffer: the reference's logits. -/
theorem point21 : out0_21 X (mat V0) (row V0) (a11 V0) (row64 (a12 V0)) (a13 V0) (row32 (a14 V0)) (a15 V0) (row64 (a16 V0)) (a17 V0)
      (row32 (a18 V0)) (a19 V0) (row64 (a20 V0)) (a21 V0) (row32 (a22 V0)) (a23 V0) (row64 (a24 V0)) (a25 V0) (row32 (a26 V0))
      (turned (a27 V0)) (row3 (a28 V0)) (ix3 g 0 k) = res_main_v315 V0 (ix2 n k) := by
  rw [stored21, pair_apply, ← logits_eq V0 n (member X g) (fun i q => (member_apply X g i q).trans (hx i q)) hn k]
  fin_cases g
  · exact lead_apply (logits V0 (View.ld X r0_0)) k
  · exact lead_apply (logits V0 (View.ld X r0_27)) k

/-- What a point stores of a graph in the second result's buffer: the reference's class probabilities. -/
theorem point22 : out0_22 X (mat V0) (row V0) (a11 V0) (row64 (a12 V0)) (a13 V0) (row32 (a14 V0)) (a15 V0) (row64 (a16 V0)) (a17 V0)
      (row32 (a18 V0)) (a19 V0) (row64 (a20 V0)) (a21 V0) (row32 (a22 V0)) (a23 V0) (row64 (a24 V0)) (a25 V0) (row32 (a26 V0))
      (turned (a27 V0)) (row3 (a28 V0)) (ix3 g 0 k) = ReferenceIdeal.Branch.classes (res_main_v315 V0) (ix2 n k) := by
  have h : (fun t => logits V0 (member X g) (ix2 0 t)) = fun t => res_main_v315 V0 (ix2 n t) :=
    funext (logits_eq V0 n (member X g) (fun i q => (member_apply X g i q).trans (hx i q)) hn)
  rw [stored22, pair_apply, ReferenceIdeal.Branch.classes_apply, ← h, ← Block.soft_apply _ 0]
  fin_cases g
  · exact lead_apply (Block.soft (logits V0 (View.ld X r0_0))) k
  · exact lead_apply (Block.soft (logits V0 (View.ld X r0_27))) k

end point

end Cert.Equal
-- ==== Proof.Windows.lean ====
module

public import Idealize.ShloMosaic.Lib.Pipeline.ValueKit.Point
public import proofs.«01_k».proof.Proof.Gen.KernelIdeal.Value

/-! # The kernel's input windows: which part of its array each point is given -/

@[expose] public section

set_option maxRecDepth 16384

noncomputable section

namespace Cert.KernelIdeal.Windows

open Idealize.ShloMosaic Cert.KernelIdeal Cert.KernelIdeal.Gen

variable (m : (ℓ : Loc nD τ sig) → Buf (Elt Ideal) ℓ) (c : Dev nD) (t : Fin cfg0.N)

/-- Window 0 moves by one pair of graphs per point. -/
theorem idx0 : ∀ t : Fin cfg0.N, win0_0.index t = ![t.val, 0, 0] :=
  (by decide +kernel : ∀ t : Fin grid0.N, win0_0.index t = ![t.val, 0, 0])

/-- Graph `g` of point `t`, among all the graphs. -/
abbrev graphOf (t : Fin cfg0.N) (g : Fin 2) : Fin 1024 := ⟨t.val * 2 + g.val, by
  have h := t.isLt
  have e : cfg0.N = 512 := rfl
  omega⟩

/-- Point `t` is given its two graphs. -/
theorem pair0 (g : Fin 2) (i : Fin 126) (k : Fin 40) : iblk m c 0 t (ix3 g i k) = V m c main_v0 (ix3 (graphOf t g) i k) := by
  blk_ext! [iblk, idx0]

/-- Window 1 is its whole array. -/
theorem read1 (X : Vec Ideal S40x960 .f32) : ((cfg0.win 1).blk t).view.read (Elt Ideal) X = X := by
  blk_ext! [show ∀ t : Fin cfg0.N, win0_1.index t = ![0, 0] from fun _ => rfl]

/-- Every point is given the whole array 1. -/
theorem whole1 : iblk m c 1 t = V m c main_v139 := read1 t _

/-- Window 2 is its whole array. -/
theorem read2 (X : Vec Ideal S1x960 .f32) : ((cfg0.win 2).blk t).view.read (Elt Ideal) X = X := by
  blk_ext! [show ∀ t : Fin cfg0.N, win0_2.index t = ![0, 0] from fun _ => rfl]

/-- Every point is given the whole array 2. -/
theorem whole2 : iblk m c 2 t = V m c main_v141 := read2 t _

/-- Window 3 is its whole array. -/
theorem read3 (X : Vec Ideal S128x64 .f32) : ((cfg0.win 3).blk t).view.read (Elt Ideal) X = X := by
  blk_ext! [show ∀ t : Fin cfg0.N, win0_3.index t = ![0, 0] from fun _ => rfl]

/-- Every point is given the whole array 3. -/
theorem whole3 : iblk m c 3 t = V m c main_arg11 := read3 t _

/-- Window 4 is its whole array. -/
theorem read4 (X : Vec Ideal S1x64 .f32) : ((cfg0.win 4).blk t).view.read (Elt Ideal) X = X := by
  blk_ext! [show ∀ t : Fin cfg0.N, win0_4.index t = ![0, 0] from fun _ => rfl]

/-- Every point is given the whole array 4. -/
theorem whole4 : iblk m c 4 t = V m c main_v144 := read4 t _

/-- Window 5 is its whole array. -/
theorem read5 (X : Vec Ideal S128x32 .f32) : ((cfg0.win 5).blk t).view.read (Elt Ideal) X = X := by
  blk_ext! [show ∀ t : Fin cfg0.N, win0_5.index t = ![0, 0] from fun _ => rfl]

/-- Every point is given the whole array 5. -/
theorem whole5 : iblk m c 5 t = V m c main_arg13 := read5 t _

/-- Window 6 is its whole array. -/
theorem read6 (X : Vec Ideal S1x32 .f32) : ((cfg0.win 6).blk t).view.read (Elt Ideal) X = X := by
  blk_ext! [show ∀ t : Fin cfg0.N, win0_6.index t = ![0, 0] from fun _ => rfl]

/-- Every point is given the whole array 6. -/
theorem whole6 : iblk m c 6 t = V m c main_v145 := read6 t _

/-- Window 7 is its whole array. -/
theorem read7 (X : Vec Ideal S192x64 .f32) : ((cfg0.win 7).blk t).view.read (Elt Ideal) X = X := by
  blk_ext! [show ∀ t : Fin cfg0.N, win0_7.index t = ![0, 0] from fun _ => rfl]

/-- Every point is given the whole array 7. -/
theorem whole7 : iblk m c 7 t = V m c main_arg15 := read7 t _

/-- Window 8 is its whole array. -/
theorem read8 (X : Vec Ideal S1x64 .f32) : ((cfg0.win 8).blk t).view.read (Elt Ideal) X = X := by
  blk_ext! [show ∀ t : Fin cfg0.N, win0_8.index t = ![0, 0] from fun _ => rfl]

/-- Every point is given the whole array 8. -/
theorem whole8 : iblk m c 8 t = V m c main_v146 := read8 t _

/-- Window 9 is its whole array. -/
theorem read9 (X : Vec Ideal S192x32 .f32) : ((cfg0.win 9).blk t).view.read (Elt Ideal) X = X := by
  blk_ext! [show ∀ t : Fin cfg0.N, win0_9.index t = ![0, 0] from fun _ => rfl]

/-- Every point is given the whole array 9. -/
theorem whole9 : iblk m c 9 t = V m c main_arg17 := read9 t _

/-- Window 10 is its whole array. -/
theorem read10 (X : Vec Ideal S1x32 .f32) : ((cfg0.win 10).blk t).view.read (Elt Ideal) X = X := by
  blk_ext! [show ∀ t : Fin cfg0.N, win0_10.index t = ![0, 0] from fun _ => rfl]

/-- Every point is given the whole array 10. -/
theorem whole10 : iblk m c 10 t = V m c main_v147 := read10 t _

/-- Window 11 is its whole array. -/
theorem read11 (X : Vec Ideal S256x64 .f32) : ((cfg0.win 11).blk t).view.read (Elt Ideal) X = X := by
  blk_ext! [show ∀ t : Fin cfg0.N, win0_11.index t = ![0, 0] from fun _ => rfl]

/-- Every point is given the whole array 11. -/
theorem whole11 : iblk m c 11 t = V m c main_arg19 := read11 t _

/-- Window 12 is its whole array. -/
theorem read12 (X : Vec Ideal S1x64 .f32) : ((cfg0.win 12).blk t).view.read (Elt Ideal) X = X := by
  blk_ext! [show ∀ t : Fin cfg0.N, win0_12.index t = ![0, 0] from fun _ => rfl]

/-- Every point is given the whole array 12. -/
theorem whole12 : iblk m c 12 t = V m c main_v148 := read12 t _

/-- Window 13 is its whole array. -/
theorem read13 (X : Vec Ideal S256x32 .f32) : ((cfg0.win 13).blk t).view.read (Elt Ideal) X = X := by
  blk_ext! [show ∀ t : Fin cfg0.N, win0_13.index t = ![0, 0] from fun _ => rfl]

/-- Every point is given the whole array 13. -/
theorem whole13 : iblk m c 13 t = V m c main_arg21 := read13 t _

/-- Window 14 is its whole array. -/
theorem read14 (X : Vec Ideal S1x32 .f32) : ((cfg0.win 14).blk t).view.read (Elt Ideal) X = X := by
  blk_ext! [show ∀ t : Fin cfg0.N, win0_14.index t = ![0, 0] from fun _ => rfl]

/-- Every point is given the whole array 14. -/
theorem whole14 : iblk m c 14 t = V m c main_v149 := read14 t _

/-- Window 15 is its whole array. -/
theorem read15 (X : Vec Ideal S320x64 .f32) : ((cfg0.win 15).blk t).view.read (Elt Ideal) X = X := by
  blk_ext! [show ∀ t : Fin cfg0.N, win0_15.index t = ![0, 0] from fun _ => rfl]

/-- Every point is given the whole array 15. -/
theorem whole15 : iblk m c 15 t = V m c main_arg23 := read15 t _

/-- Window 16 is its whole array. -/
theorem read16 (X : Vec Ideal S1x64 .f32) : ((cfg0.win 16).blk t).view.read (Elt Ideal) X = X := by
  blk_ext! [show ∀ t : Fin cfg0.N, win0_16.index t = ![0, 0] from fun _ => rfl]

/-- Every point is given the whole array 16. -/
theorem whole16 : iblk m c 16 t = V m c main_v150 := read16 t _

/-- Window 17 is its whole array. -/
theorem read17 (X : Vec Ideal S320x32 .f32) : ((cfg0.win 17).blk t).view.read (Elt Ideal) X = X := by
  blk_ext! [show ∀ t : Fin cfg0.N, win0_17.index t = ![0, 0] from fun _ => rfl]

/-- Every point is given the whole array 17. -/
theorem whole17 : iblk m c 17 t = V m c main_arg25 := read17 t _

/-- Window 18 is its whole array. -/
theorem read18 (X : Vec Ideal S1x32 .f32) : ((cfg0.win 18).blk t).view.read (Elt Ideal) X = X := by
  blk_ext! [show ∀ t : Fin cfg0.N, win0_18.index t = ![0, 0] from fun _ => rfl]

/-- Every point is given the whole array 18. -/
theorem whole18 : iblk m c 18 t = V m c main_v151 := read18 t _

/-- Window 19 is its whole array. -/
theorem read19 (X : Vec Ideal S3x504x32 .f32) : ((cfg0.win 19).blk t).view.read (Elt Ideal) X = X := by
  blk_ext! [show ∀ t : Fin cfg0.N, win0_19.index t = ![0, 0, 0] from fun _ => rfl]

/-- Every point is given the whole array 19. -/
theorem whole19 : iblk m c 19 t = V m c main_v143 := read19 t _

/-- Window 20 is its whole array. -/
theorem read20 (X : Vec Ideal S1x3 .f32) : ((cfg0.win 20).blk t).view.read (Elt Ideal) X = X := by
  blk_ext! [show ∀ t : Fin cfg0.N, win0_20.index t = ![0, 0] from fun _ => rfl]

/-- Every point is given the whole array 20. -/
theorem whole20 : iblk m c 20 t = V m c main_v152 := read20 t _

end Cert.KernelIdeal.Windows
-- ==== Proof.Result.lean ====
module

public import proofs.«01_k».proof.Proof.Point
public import proofs.«01_k».proof.Proof.Windows

/-! # The kernel's result arrays, from the reference's arguments -/

@[expose] public section

set_option maxRecDepth 16384

noncomputable section

namespace Cert.Equal

open Idealize.ShloMosaic Cert.KernelIdeal Cert.KernelIdeal.Gen Cert.KernelIdeal.Value Cert.KernelIdeal.Windows
open Cert.ReferenceIdeal.Value (res_main_v315)

/-- The kernel's arguments on a device are the reference's. -/
structure Agree (V0 : Valuation ReferenceIdeal.τ ReferenceIdeal.sig (Elt Ideal)) (m : (ℓ : Loc nD τ sig) → Buf (Elt Ideal) ℓ)
    (c : Dev nD) : Prop where
  h0 : a0 V0 = m ((c.tc : Thread nD τ).loc main_arg0)
  h3 : a3 V0 = m ((c.tc : Thread nD τ).loc main_arg3)
  h4 : a4 V0 = m ((c.tc : Thread nD τ).loc main_arg4)
  h5 : a5 V0 = m ((c.tc : Thread nD τ).loc main_arg5)
  h6 : a6 V0 = m ((c.tc : Thread nD τ).loc main_arg6)
  h7 : a7 V0 = m ((c.tc : Thread nD τ).loc main_arg7)
  h8 : a8 V0 = m ((c.tc : Thread nD τ).loc main_arg8)
  h9 : a9 V0 = m ((c.tc : Thread nD τ).loc main_arg9)
  h10 : a10 V0 = m ((c.tc : Thread nD τ).loc main_arg10)
  h11 : a11 V0 = m ((c.tc : Thread nD τ).loc main_arg11)
  h12 : a12 V0 = m ((c.tc : Thread nD τ).loc main_arg12)
  h13 : a13 V0 = m ((c.tc : Thread nD τ).loc main_arg13)
  h14 : a14 V0 = m ((c.tc : Thread nD τ).loc main_arg14)
  h15 : a15 V0 = m ((c.tc : Thread nD τ).loc main_arg15)
  h16 : a16 V0 = m ((c.tc : Thread nD τ).loc main_arg16)
  h17 : a17 V0 = m ((c.tc : Thread nD τ).loc main_arg17)
  h18 : a18 V0 = m ((c.tc : Thread nD τ).loc main_arg18)
  h19 : a19 V0 = m ((c.tc : Thread nD τ).loc main_arg19)
  h20 : a20 V0 = m ((c.tc : Thread nD τ).loc main_arg20)
  h21 : a21 V0 = m ((c.tc : Thread nD τ).loc main_arg21)
  h22 : a22 V0 = m ((c.tc : Thread nD τ).loc main_arg22)
  h23 : a23 V0 = m ((c.tc : Thread nD τ).loc main_arg23)
  h24 : a24 V0 = m ((c.tc : Thread nD τ).loc main_arg24)
  h25 : a25 V0 = m ((c.tc : Thread nD τ).loc main_arg25)
  h26 : a26 V0 = m ((c.tc : Thread nD τ).loc main_arg26)
  h27 : a27 V0 = m ((c.tc : Thread nD τ).loc main_arg27)
  h28 : a28 V0 = m ((c.tc : Thread nD τ).loc main_arg28)

/-- The nodes grouped by graph, at an index. -/
theorem graphs_apply (x : Vec Ideal S129024x40 .f32) (n : Fin 1024) (i : Fin 126) (q : Fin 40) :
    shapeCast S1024x126x40 x shapeCasts_S129024x40_S1024x126x40 (ix3 n i q) = x (ix2 (node n i) q) := by
  pointwise

/-- One row per graph, with a unit axis between. -/
abbrev lead (l : Vec Ideal ReferenceIdeal.S1024x3 .f32) : Vec Ideal S1024x1x3 .f32 := shapeCast S1024x1x3 l ReferenceIdeal.Gen.shapeCasts_S1024x3_S1024x1x3

/-- The same at an index. -/
theorem lead_row (l : Vec Ideal ReferenceIdeal.S1024x3 .f32) (n : Fin 1024) (k : Fin 3) : lead l (ix3 n 0 k) = l (ix2 n k) := by
  pointwise [lead]

/-- The first result's window moves by one pair of graphs per point. -/
theorem idx21 : ∀ t : Fin cfg0.N, win0_21.index t = ![t.val, 0, 0] :=
  (by decide +kernel : ∀ t : Fin grid0.N, win0_21.index t = ![t.val, 0, 0])

/-- The second result's window moves by one pair of graphs per point. -/
theorem idx22 : ∀ t : Fin cfg0.N, win0_22.index t = ![t.val, 0, 0] :=
  (by decide +kernel : ∀ t : Fin grid0.N, win0_22.index t = ![t.val, 0, 0])

/-- Where a point's block of the first result lies. -/
theorem place21 (t : Fin cfg0.N) (g : Fin 2) (k : Fin 3) : ((cfg0.win 21).blk t).view.emb (ix3 g 0 k) = ix3 (graphOf t g) 0 k := by
  blk_ext! [idx21]

/-- Where a point's block of the second result lies. -/
theorem place22 (t : Fin cfg0.N) (g : Fin 2) (k : Fin 3) : ((cfg0.win 22).blk t).view.emb (ix3 g 0 k) = ix3 (graphOf t g) 0 k := by
  blk_ext! [idx22]

section result

variable (V0 : Valuation ReferenceIdeal.τ ReferenceIdeal.sig (Elt Ideal)) (m : (ℓ : Loc nD τ sig) → Buf (Elt Ideal) ℓ) (c : Dev nD)
  (h : Agree V0 m c) (t : Fin cfg0.N)

include h

/-- Every point's array 1, from the reference's arguments. -/
theorem given1 : iblk m c 1 t = mat V0 :=
  (whole1 m c t).trans ((by rw [mat, h.h3, h.h5, h.h7, h.h9]; exact Host.V_v139 m c : V m c main_v139 = mat V0))

/-- Every point's array 2, from the reference's arguments. -/
theorem given2 : iblk m c 2 t = row V0 :=
  (whole2 m c t).trans ((by rw [row, h.h4, h.h6, h.h8, h.h10]; exact Host.V_v141 m c : V m c main_v141 = row V0))

/-- Every point's array 3, from the reference's arguments. -/
theorem given3 : iblk m c 3 t = a11 V0 :=
  (whole3 m c t).trans ((by rw [h.h11]; exact V_main_arg11 m c : V m c main_arg11 = a11 V0))

/-- Every point's array 4, from the reference's arguments. -/
theorem given4 : iblk m c 4 t = row64 (a12 V0) :=
  (whole4 m c t).trans ((by rw [row64, h.h12]; exact Host.V_v144 m c : V m c main_v144 = row64 (a12 V0)))

/-- Every point's array 5, from the reference's arguments. -/
theorem given5 : iblk m c 5 t = a13 V0 :=
  (whole5 m c t).trans ((by rw [h.h13]; exact V_main_arg13 m c : V m c main_arg13 = a13 V0))

/-- Every point's array 6, from the reference's arguments. -/
theorem given6 : iblk m c 6 t = row32 (a14 V0) :=
  (whole6 m c t).trans ((by rw [row32, h.h14]; exact Host.V_v145 m c : V m c main_v145 = row32 (a14 V0)))

/-- Every point's array 7, from the reference's arguments. -/
theorem given7 : iblk m c 7 t = a15 V0 :=
  (whole7 m c t).trans ((by rw [h.h15]; exact V_main_arg15 m c : V m c main_arg15 = a15 V0))

/-- Every point's array 8, from the reference's arguments. -/
theorem given8 : iblk m c 8 t = row64 (a16 V0) :=
  (whole8 m c t).trans ((by rw [row64, h.h16]; exact Host.V_v146 m c : V m c main_v146 = row64 (a16 V0)))

/-- Every point's array 9, from the reference's arguments. -/
theorem given9 : iblk m c 9 t = a17 V0 :=
  (whole9 m c t).trans ((by rw [h.h17]; exact V_main_arg17 m c : V m c main_arg17 = a17 V0))

/-- Every point's array 10, from the reference's arguments. -/
theorem given10 : iblk m c 10 t = row32 (a18 V0) :=
  (whole10 m c t).trans ((by rw [row32, h.h18]; exact Host.V_v147 m c : V m c main_v147 = row32 (a18 V0)))

/-- Every point's array 11, from the reference's arguments. -/
theorem given11 : iblk m c 11 t = a19 V0 :=
  (whole11 m c t).trans ((by rw [h.h19]; exact V_main_arg19 m c : V m c main_arg19 = a19 V0))

/-- Every point's array 12, from the reference's arguments. -/
theorem given12 : iblk m c 12 t = row64 (a20 V0) :=
  (whole12 m c t).trans ((by rw [row64, h.h20]; exact Host.V_v148 m c : V m c main_v148 = row64 (a20 V0)))

/-- Every point's array 13, from the reference's arguments. -/
theorem given13 : iblk m c 13 t = a21 V0 :=
  (whole13 m c t).trans ((by rw [h.h21]; exact V_main_arg21 m c : V m c main_arg21 = a21 V0))

/-- Every point's array 14, from the reference's arguments. -/
theorem given14 : iblk m c 14 t = row32 (a22 V0) :=
  (whole14 m c t).trans ((by rw [row32, h.h22]; exact Host.V_v149 m c : V m c main_v149 = row32 (a22 V0)))

/-- Every point's array 15, from the reference's arguments. -/
theorem given15 : iblk m c 15 t = a23 V0 :=
  (whole15 m c t).trans ((by rw [h.h23]; exact V_main_arg23 m c : V m c main_arg23 = a23 V0))

/-- Every point's array 16, from the reference's arguments. -/
theorem given16 : iblk m c 16 t = row64 (a24 V0) :=
  (whole16 m c t).trans ((by rw [row64, h.h24]; exact Host.V_v150 m c : V m c main_v150 = row64 (a24 V0)))

/-- Every point's array 17, from the reference's arguments. -/
theorem given17 : iblk m c 17 t = a25 V0 :=
  (whole17 m c t).trans ((by rw [h.h25]; exact V_main_arg25 m c : V m c main_arg25 = a25 V0))

/-- Every point's array 18, from the reference's arguments. -/
theorem given18 : iblk m c 18 t = row32 (a26 V0) :=
  (whole18 m c t).trans ((by rw [row32, h.h26]; exact Host.V_v151 m c : V m c main_v151 = row32 (a26 V0)))

/-- Every point's array 19, from the reference's arguments. -/
theorem given19 : iblk m c 19 t = turned (a27 V0) :=
  (whole19 m c t).trans ((by rw [turned, h.h27]; exact Host.V_v143 m c : V m c main_v143 = turned (a27 V0)))

/-- Every point's array 20, from the reference's arguments. -/
theorem given20 : iblk m c 20 t = row3 (a28 V0) :=
  (whole20 m c t).trans ((by rw [row3, h.h28]; exact Host.V_v152 m c : V m c main_v152 = row3 (a28 V0)))

/-- A node's inputs of one of the point's graphs. -/
theorem given0 (g : Fin 2) (i : Fin 126) (q : Fin 40) : iblk m c 0 t (ix3 g i q) = a0 V0 (ix2 (node (graphOf t g) i) q) := by
  rw [h.h0]
  exact (pair0 m c t g i q).trans ((congrFun (Host.V_v0 m c) _).trans (graphs_apply _ _ i q))

/-- What the body leaves in the first result's buffer at a point. -/
theorem after21 : (dats m 0 c).after 21 t = out0_21 (iblk m c 0 t) (mat V0) (row V0) (a11 V0) (row64 (a12 V0)) (a13 V0) (row32 (a14 V0)) (a15 V0) (row64 (a16 V0)) (a17 V0)
      (row32 (a18 V0)) (a19 V0) (row64 (a20 V0)) (a21 V0) (row32 (a22 V0)) (a23 V0) (row64 (a24 V0)) (a25 V0) (row32 (a26 V0))
      (turned (a27 V0)) (row3 (a28 V0)) := by
  rw [after0_21, given1 V0 m c h t, given2 V0 m c h t, given3 V0 m c h t, given4 V0 m c h t, given5 V0 m c h t, given6 V0 m c h t, given7
    V0 m c h t, given8 V0 m c h t, given9 V0 m c h t, given10 V0 m c h t, given11 V0 m c h t, given12 V0 m c h t, given13 V0
    m c h t, given14 V0 m c h t, given15 V0 m c h t, given16 V0 m c h t, given17 V0 m c h t, given18 V0 m c h t, given19 V0
    m c h t, given20 V0 m c h t]

/-- What the body leaves in the second result's buffer at a point. -/
theorem after22 : (dats m 0 c).after 22 t = out0_22 (iblk m c 0 t) (mat V0) (row V0) (a11 V0) (row64 (a12 V0)) (a13 V0) (row32 (a14 V0)) (a15 V0) (row64 (a16 V0)) (a17 V0)
      (row32 (a18 V0)) (a19 V0) (row64 (a20 V0)) (a21 V0) (row32 (a22 V0)) (a23 V0) (row64 (a24 V0)) (a25 V0) (row32 (a26 V0))
      (turned (a27 V0)) (row3 (a28 V0)) := by
  rw [after0_22, given1 V0 m c h t, given2 V0 m c h t, given3 V0 m c h t, given4 V0 m c h t, given5 V0 m c h t, given6 V0 m c h t, given7
    V0 m c h t, given8 V0 m c h t, given9 V0 m c h t, given10 V0 m c h t, given11 V0 m c h t, given12 V0 m c h t, given13 V0
    m c h t, given14 V0 m c h t, given15 V0 m c h t, given16 V0 m c h t, given17 V0 m c h t, given18 V0 m c h t, given19 V0
    m c h t, given20 V0 m c h t]

variable (hn : ∀ n, NoTie V0 n)

include hn

/-- The first result array after the run: the reference's logits. -/
theorem final21 : (dats m 0 c).arrAt 21 cfg0.N = lead (res_main_v315 V0) := by
  refine (dats m 0 c).arrAt_eq_of_covers 21 _ (by decide +kernel) fun t _ y => ?_
  obtain ⟨g, i, k, rfl⟩ : ∃ (g : Fin 2) (i : Fin 1) (k : Fin 3), y = ix3 g i k := ⟨y 0, y 1, y 2, by
    funext d
    fin_cases d <;> rfl⟩
  obtain rfl : i = 0 := Subsingleton.elim _ _
  refine (congrFun (after21 V0 m c h t) (ix3 g 0 k)).trans ?_
  refine (point21 V0 _ (graphOf t g) g (given0 V0 m c h t g) (hn _) k).trans ?_
  exact ((congrArg (lead (res_main_v315 V0)) (place21 t g k)).trans (lead_row _ _ _)).symm

/-- The second result array after the run: the reference's class probabilities. -/
theorem final22 : (dats m 0 c).arrAt 22 cfg0.N = lead (ReferenceIdeal.Branch.classes (res_main_v315 V0)) := by
  refine (dats m 0 c).arrAt_eq_of_covers 22 _ (by decide +kernel) fun t _ y => ?_
  obtain ⟨g, i, k, rfl⟩ : ∃ (g : Fin 2) (i : Fin 1) (k : Fin 3), y = ix3 g i k := ⟨y 0, y 1, y 2, by
    funext d
    fin_cases d <;> rfl⟩
  obtain rfl : i = 0 := Subsingleton.elim _ _
  refine (congrFun (after22 V0 m c h t) (ix3 g 0 k)).trans ?_
  refine (point22 V0 _ (graphOf t g) g (given0 V0 m c h t g) (hn _) k).trans ?_
  exact ((congrArg (lead (ReferenceIdeal.Branch.classes (res_main_v315 V0))) (place22 t g k)).trans (lead_row _ _ _)).symm

end result

end Cert.Equal
-- ==== Proof.Pre.lean ====
module

public import proofs.«01_k».proof.Pre_no_tie
public import proofs.«01_k».proof.Proof.RefAt

/-! # The precondition: no node has two equal scores -/

@[expose] public section

set_option maxRecDepth 16384

noncomputable section

namespace Cert.Pre_no_tie

open Cert.Pre_no_tie Idealize.ShloMosaic

/-- The predicate's shape facts. -/
theorem facts : Facts := by
  constructor <;> decide

variable [Facts]

open Facts

/-- Whether a row's entries differ pairwise, at every four indices. -/
def differ (v : FVec Ideal S1024x126x126 .f32) : IVec S1024x126x126x126 1 :=
  ori (cmpf .une (broadcastInDim S1024x126x126x126 ![0, 1, 2, 3] bcast_S1024x126x126x1_S1024x126x126x126_0_1_2_3 (broadcastInDim S1024x126x126x1 ![0, 1, 2] bcast_S1024x126x126_S1024x126x126x1_0_1_2 v))
      (broadcastInDim S1024x126x126x126 ![0, 1, 2, 3] bcast_S1024x126x1x126_S1024x126x126x126_0_1_2_3 (broadcastInDim S1024x126x1x126 ![0, 1, 3] bcast_S1024x126x126_S1024x126x1x126_0_1_3 v)))
    (broadcastInDim S1024x126x126x126 ![0, 1, 2, 3] bcast_S1x1x126x126_S1024x126x126x126_0_1_2_3 (broadcastInDim S1x1x126x126 ![2, 3] bcast_S126x126_S1x1x126x126_2_3
      (cmpi .eq (addi (iotaInDim S126x126 32 0) (broadcastInDim S126x126 ![] bcast_S_S126x126 (constantI S_ 32 0#32))) (iotaInDim S126x126 32 1))))

/-- Whether all are one. -/
def every (x : IVec S1024x126x126x126 1) : IVec S_ 1 :=
  Host.reduce IntOp.andi x (constantI S_ 1 1#1) reducesTo_S1024x126x126x126_S_d0_1_2_3 h_S_

/-- The predicate's value. -/
theorem fn_eq (V0 : Valuation ReferenceIdeal.τ ReferenceIdeal.sig (Elt Ideal)) (a1 : IVec S2x129024 32) (a2 : IVec S129024 32)
    (a13 : FVec Ideal S128x32 .f32) (a14 : FVec Ideal S32 .f32) (a17 : FVec Ideal S192x32 .f32) (a18 : FVec Ideal S32 .f32) (a21 : FVec Ideal S256x32 .f32) (a22 : FVec Ideal S32 .f32)
    (a25 : FVec Ideal S320x32 .f32) (a26 : FVec Ideal S32 .f32) (a27 : FVec Ideal S16128x3 .f32) (a28 : FVec Ideal S3 .f32) :
    fn (F := Ideal) (V0 (Proc.devRef .tc ReferenceIdeal.main_arg0)) a1 a2 (V0 (Proc.devRef .tc ReferenceIdeal.main_arg3)) (V0 (Proc.devRef .tc ReferenceIdeal.main_arg4))
      (V0 (Proc.devRef .tc ReferenceIdeal.main_arg5)) (V0 (Proc.devRef .tc ReferenceIdeal.main_arg6)) (V0 (Proc.devRef .tc ReferenceIdeal.main_arg7)) (V0 (Proc.devRef .tc ReferenceIdeal.main_arg8))
      (V0 (Proc.devRef .tc ReferenceIdeal.main_arg9)) (V0 (Proc.devRef .tc ReferenceIdeal.main_arg10)) (V0 (Proc.devRef .tc ReferenceIdeal.main_arg11)) (V0 (Proc.devRef .tc ReferenceIdeal.main_arg12)) a13 a14
      (V0 (Proc.devRef .tc ReferenceIdeal.main_arg15)) (V0 (Proc.devRef .tc ReferenceIdeal.main_arg16)) a17 a18
      (V0 (Proc.devRef .tc ReferenceIdeal.main_arg19)) (V0 (Proc.devRef .tc ReferenceIdeal.main_arg20)) a21 a22
      (V0 (Proc.devRef .tc ReferenceIdeal.main_arg23)) (V0 (Proc.devRef .tc ReferenceIdeal.main_arg24)) a25 a26 a27 a28
    = andi (andi (andi (every (differ (ReferenceIdeal.Value.res_main_v49 V0))) (every (differ (ReferenceIdeal.Value.res_main_v132 V0))))
        (every (differ (ReferenceIdeal.Value.res_main_v205 V0)))) (every (differ (ReferenceIdeal.Value.res_main_v266 V0))) := rfl

/-- The comparison at an index. -/
theorem differ_apply (v : FVec Ideal S1024x126x126 .f32) (n : Fin 1024) (i j k : Fin 126) :
    differ v (ix4 n i j k) = 1#1 ↔ v (ix3 n i j) ≠ v (ix3 n i k) ∨ j = k := by
  pointwise [differ, ReferenceIdeal.Branch.eye_apply]
  by_cases h : j = k <;> by_cases h' : v (ix3 n i j) = v (ix3 n i k) <;> simp [h, h', IntOp.ori]

/-- A conjunction that is one has only ones. -/
theorem fold_andi {ι : Type} (s : Finset ι) (p : ι → BitVec 1) (h : Finset.fold IntOp.andi (1#1) p s = 1#1) : ∀ x ∈ s, p x = 1#1 := by
  have two : ∀ a b : BitVec 1, IntOp.andi a b = 1#1 → a = 1#1 ∧ b = 1#1 := by decide
  induction s using Finset.cons_induction with
  | empty => simp
  | cons k u hk ih =>
    rw [Finset.fold_cons] at h
    obtain ⟨h1, h2⟩ := two _ _ h
    intro x hx
    rcases Finset.mem_cons.mp hx with rfl | hx
    · exact h1
    · exact ih h2 x hx

/-- If all are one, so is each. -/
theorem every_apply (x : IVec S1024x126x126x126 1) (i : S_.Idx) (h : every x i = 1#1) (j : S1024x126x126x126.Idx) : x j = 1#1 := by
  have : ∀ a b : S_.Idx, a = b := fun a b => funext fun d => d.elim0
  revert h
  pointwise [every]
  intro h
  exact fold_andi _ _ h j (Finset.mem_filter.mpr ⟨Finset.mem_univ _, this _ _⟩)

/-- If all comparisons hold, every row's entries are different. -/
theorem injective_of_every (v : FVec Ideal S1024x126x126 .f32) (i : S_.Idx) (h : every (differ v) i = 1#1) (n : Fin 1024) (a : Fin 126) :
    Function.Injective fun k => v (ix3 n a k) := fun j k e =>
  ((differ_apply v n a j k).mp (every_apply _ i h _)).resolve_left fun hne => hne e

/-- A conjunction of four that is one everywhere has four that are. -/
theorem four (a b c d : IVec S_ 1) (h : andi (andi (andi a b) c) d = fun _ => 1#1) (i : S_.Idx) :
    a i = 1#1 ∧ b i = 1#1 ∧ c i = 1#1 ∧ d i = 1#1 := by
  have four : ∀ a b c d : BitVec 1, IntOp.andi (IntOp.andi (IntOp.andi a b) c) d = 1#1 → a = 1#1 ∧ b = 1#1 ∧ c = 1#1 ∧ d = 1#1 := by decide
  exact four _ _ _ _ (congrFun h i)

end Cert.Pre_no_tie
-- ==== Proof.Tie.lean ====
module

public import proofs.«01_k».proof.Proof.Pre
public import proofs.«01_k».proof.Proof.Logits

/-! # The precondition gives what the equation asks -/

@[expose] public section

set_option maxRecDepth 16384

noncomputable section

namespace Cert.Equal

open Idealize.ShloMosaic

/-- Where the predicate holds, no row of scores has two equal ones, in any branch of any graph. -/
theorem noTie_of_pre [Pre_no_tie.Facts] (V0 : Valuation ReferenceIdeal.τ ReferenceIdeal.sig (Elt Ideal))
    (h : Pre_no_tie.fn (F := Ideal)
      (V0 (Proc.devRef .tc ReferenceIdeal.main_arg0)) (V0 (Proc.devRef .tc ReferenceIdeal.main_arg1)) (V0 (Proc.devRef .tc ReferenceIdeal.main_arg2))
      (V0 (Proc.devRef .tc ReferenceIdeal.main_arg3)) (V0 (Proc.devRef .tc ReferenceIdeal.main_arg4)) (V0 (Proc.devRef .tc ReferenceIdeal.main_arg5))
      (V0 (Proc.devRef .tc ReferenceIdeal.main_arg6)) (V0 (Proc.devRef .tc ReferenceIdeal.main_arg7)) (V0 (Proc.devRef .tc ReferenceIdeal.main_arg8))
      (V0 (Proc.devRef .tc ReferenceIdeal.main_arg9)) (V0 (Proc.devRef .tc ReferenceIdeal.main_arg10)) (V0 (Proc.devRef .tc ReferenceIdeal.main_arg11))
      (V0 (Proc.devRef .tc ReferenceIdeal.main_arg12)) (V0 (Proc.devRef .tc ReferenceIdeal.main_arg13)) (V0 (Proc.devRef .tc ReferenceIdeal.main_arg14))
      (V0 (Proc.devRef .tc ReferenceIdeal.main_arg15)) (V0 (Proc.devRef .tc ReferenceIdeal.main_arg16)) (V0 (Proc.devRef .tc ReferenceIdeal.main_arg17))
      (V0 (Proc.devRef .tc ReferenceIdeal.main_arg18)) (V0 (Proc.devRef .tc ReferenceIdeal.main_arg19)) (V0 (Proc.devRef .tc ReferenceIdeal.main_arg20))
      (V0 (Proc.devRef .tc ReferenceIdeal.main_arg21)) (V0 (Proc.devRef .tc ReferenceIdeal.main_arg22)) (V0 (Proc.devRef .tc ReferenceIdeal.main_arg23))
      (V0 (Proc.devRef .tc ReferenceIdeal.main_arg24)) (V0 (Proc.devRef .tc ReferenceIdeal.main_arg25)) (V0 (Proc.devRef .tc ReferenceIdeal.main_arg26))
      (V0 (Proc.devRef .tc ReferenceIdeal.main_arg27)) (V0 (Proc.devRef .tc ReferenceIdeal.main_arg28))
      = fun _ => 1#1) (n : Fin 1024) : NoTie V0 n := by
  obtain ⟨h1, h2, h3, h4⟩ := Pre_no_tie.four _ _ _ _ ((Pre_no_tie.fn_eq V0 _ _ _ _ _ _ _ _ _ _ _ _).symm.trans h) (fun d => d.elim0)
  exact ⟨Pre_no_tie.injective_of_every _ _ h1 n, Pre_no_tie.injective_of_every _ _ h2 n, Pre_no_tie.injective_of_every _ _ h3 n,
    Pre_no_tie.injective_of_every _ _ h4 n⟩

end Cert.Equal
-- ==== Proof.lean ====
module

public import proofs.«01_k».proof.Proof.Gen.KernelIdeal.Value
public import proofs.«01_k».proof.Proof.Gen.ReferenceIdeal.Run
public import proofs.«01_k».proof.Defs
public import proofs.«01_k».proof.Proof.Result
public import proofs.«01_k».proof.Proof.Tie
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

/-! # The claims -/

@[expose] public section

noncomputable section

namespace Cert.Proof

open Idealize.ShloMosaic Idealize.ShloMosaic.StableHlo Idealize.SL.Sem
open Cert.ReferenceIdeal.Value (res_main_v315)

/-- The reference's frame: it ends with its arguments unchanged, and it has no counters. -/
theorem frame_reference : quiescent_ReferenceIdeal := fun m g _ => (θ_run _ _ _).mono
  (fun r h => ⟨fun c => (h c).2.2, sem_eq_zero_of_no_sems (by decide) r.2⟩) (ReferenceIdeal.Value.run m g)

/-- Kernel and reference compute the same two results over the extended reals. -/
theorem equal [Cert.Pre_no_tie.Facts] : algebraic_KernelIdeal_ReferenceIdeal_pre_no_tie := by
  intro m g m' g' hpre hm
  have hA : ∀ c, Equal.Agree (launchContents m' c) m c := fun c => by
    obtain ⟨e0, e1, e2, e3, e4, e5, e6, e7, e8, e9, e10, e11, e12, e13, e14, e15, e16, e17, e18, e19, e20, e21, e22, e23, e24, e25,
      e26, e27, e28⟩ := hm c
    exact ⟨e0, e3, e4, e5, e6, e7, e8, e9, e10, e11, e12, e13, e14, e15, e16, e17, e18, e19, e20, e21, e22, e23, e24, e25, e26,
      e27, e28⟩
  have hT : ∀ c n, Equal.NoTie (launchContents m' c) n := fun c => Equal.noTie_of_pre _ (by
    have p := hpre c
    obtain ⟨e0, e1, e2, e3, e4, e5, e6, e7, e8, e9, e10, e11, e12, e13, e14, e15, e16, e17, e18, e19, e20, e21, e22, e23, e24, e25,
      e26, e27, e28⟩ := hm c
    rw [← e0, ← e1, ← e2, ← e3, ← e4, ← e5, ← e6, ← e7, ← e8, ← e9, ← e10, ← e11, ← e12, ← e13, ← e14, ← e15, ← e16, ← e17, ←
      e18, ← e19, ← e20, ← e21, ← e22, ← e23, ← e24, ← e25, ← e26, ← e27, ← e28] at p
    exact p)
  refine ⟨fun c => Equal.lead (res_main_v315 (launchContents m' c)),
    fun c => Equal.lead (ReferenceIdeal.Branch.classes (res_main_v315 (launchContents m' c))), ?_, ?_⟩
  · exact (θ_run _ _ _).mono (fun r h c => ⟨(h c).1.trans (Equal.final21 _ m c (hA c) (hT c)),
      (h c).2.1.trans (Equal.final22 _ m c (hA c) (hT c)), (h c).2.2⟩) (KernelIdeal.Value.run_blocks m g)
  · exact (θ_run _ _ _).mono (fun r h c => ⟨(h c).1, (h c).2.1, (h c).2.2⟩) (ReferenceIdeal.Value.run m' g')

/-- All the claims. -/
theorem claim : Cert.Claim := ⟨Cert.Kernel.Gen.facts, Cert.KernelIdeal.Gen.facts, Cert.ReferenceIdeal.Gen.facts, Cert.Pre_no_tie.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, haveI := Cert.Pre_no_tie.facts; equal⟩

end Cert.Proof

end
